-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partials_within_15_KernelIdeal [hPre_partials_within_15_KernelIdeal : Cert.Pre_partials_within_15_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partials_within_15_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partials_within_15_ReferenceIdeal [hPre_partials_within_15_ReferenceIdeal : Cert.Pre_partials_within_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partials_within_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceUnclipped (m : (ℓ : Loc Cert.ReferenceUnclipped.nD Cert.ReferenceUnclipped.τ Cert.ReferenceUnclipped.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partials_within_15_KernelIdeal [hKernelIdeal : Cert.KernelIdeal.Facts] [hPre_partials_within_15_KernelIdeal : Cert.Pre_partials_within_15_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partials_within_15_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partials_within_15_ReferenceIdeal [hReferenceIdeal : Cert.ReferenceIdeal.Facts] [hPre_partials_within_15_ReferenceIdeal : Cert.Pre_partials_within_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partials_within_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceUnclipped [hReferenceUnclipped : Cert.ReferenceUnclipped.Facts] : Prop :=
  ∀ (m : (ℓ : Loc Cert.ReferenceUnclipped.nD Cert.ReferenceUnclipped.τ Cert.ReferenceUnclipped.sig) → Buf (Elt Ideal) ℓ) (g : Dev Cert.ReferenceUnclipped.nD → PrngReg), Pre_ReferenceUnclipped m →
    θ_run (Cert.ReferenceUnclipped.defs (F := Ideal)) (onTc (τ := Cert.ReferenceUnclipped.τ) (Cert.ReferenceUnclipped.main (F := Ideal))) ⟨m, fun _ => 0, g⟩ (fun r => (∀ c : Dev Cert.ReferenceUnclipped.nD,
      r.2.mem ((c.tc : Thread Cert.ReferenceUnclipped.nD Cert.ReferenceUnclipped.τ).loc Cert.ReferenceUnclipped.main_arg0) = m ((c.tc : Thread Cert.ReferenceUnclipped.nD Cert.ReferenceUnclipped.τ).loc Cert.ReferenceUnclipped.main_arg0)
      ∧ r.2.mem ((c.tc : Thread Cert.ReferenceUnclipped.nD Cert.ReferenceUnclipped.τ).loc Cert.ReferenceUnclipped.main_arg1) = m ((c.tc : Thread Cert.ReferenceUnclipped.nD Cert.ReferenceUnclipped.τ).loc Cert.ReferenceUnclipped.main_arg1))
      ∧ r.2.sem = fun _ => 0)

def preserves_Kernel_KernelIdeal : Prop :=
  True

def algebraic_KernelIdeal_ReferenceIdeal_pre_partials_within_15_KernelIdeal [hKernelIdeal : Cert.KernelIdeal.Facts] [hReferenceIdeal : Cert.ReferenceIdeal.Facts] [hPre_partials_within_15_KernelIdeal : Cert.Pre_partials_within_15_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partials_within_15_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceUnclipped [hKernelIdeal : Cert.KernelIdeal.Facts] [hReferenceUnclipped : Cert.ReferenceUnclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceUnclipped.nD Cert.ReferenceUnclipped.τ Cert.ReferenceUnclipped.sig) → Buf (Elt Ideal) ℓ) (g' : Dev Cert.ReferenceUnclipped.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceUnclipped.nD).tc : Thread Cert.ReferenceUnclipped.nD Cert.ReferenceUnclipped.τ).loc Cert.ReferenceUnclipped.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceUnclipped.nD).tc : Thread Cert.ReferenceUnclipped.nD Cert.ReferenceUnclipped.τ).loc Cert.ReferenceUnclipped.main_arg1))) →
    ∃ (v0 : Buf (Elt Ideal) (((0 : Dev Cert.ReferenceUnclipped.nD).tc : Thread Cert.ReferenceUnclipped.nD Cert.ReferenceUnclipped.τ).loc Cert.ReferenceUnclipped.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceUnclipped.defs (F := Ideal)) (onTc (τ := Cert.ReferenceUnclipped.τ) (Cert.ReferenceUnclipped.main (F := Ideal))) ⟨m', fun _ => 0, g'⟩ (fun r =>
          r.2.mem (((0 : Dev Cert.ReferenceUnclipped.nD).tc : Thread Cert.ReferenceUnclipped.nD Cert.ReferenceUnclipped.τ).loc Cert.ReferenceUnclipped.main_v6) = v0
          ∧ r.2.mem (((0 : Dev Cert.ReferenceUnclipped.nD).tc : Thread Cert.ReferenceUnclipped.nD Cert.ReferenceUnclipped.τ).loc Cert.ReferenceUnclipped.main_arg0) = m' (((0 : Dev Cert.ReferenceUnclipped.nD).tc : Thread Cert.ReferenceUnclipped.nD Cert.ReferenceUnclipped.τ).loc Cert.ReferenceUnclipped.main_arg0)
          ∧ r.2.mem (((0 : Dev Cert.ReferenceUnclipped.nD).tc : Thread Cert.ReferenceUnclipped.nD Cert.ReferenceUnclipped.τ).loc Cert.ReferenceUnclipped.main_arg1) = m' (((0 : Dev Cert.ReferenceUnclipped.nD).tc : Thread Cert.ReferenceUnclipped.nD Cert.ReferenceUnclipped.τ).loc Cert.ReferenceUnclipped.main_arg1))

def Claim : Prop :=
  ∃ (hKernel : Cert.Kernel.Facts) (hKernelIdeal : Cert.KernelIdeal.Facts) (hReferenceIdeal : Cert.ReferenceIdeal.Facts) (hReferenceUnclipped : Cert.ReferenceUnclipped.Facts) (hPre_partials_within_15_KernelIdeal : Cert.Pre_partials_within_15_KernelIdeal.Facts) (hPre_partials_within_15_ReferenceIdeal : Cert.Pre_partials_within_15_ReferenceIdeal.Facts),
    quiescent_Kernel (hKernel := hKernel)
    ∧ quiescent_KernelIdeal (hKernelIdeal := hKernelIdeal)
    ∧ quiescent_KernelIdeal_pre_partials_within_15_KernelIdeal (hKernelIdeal := hKernelIdeal) (hPre_partials_within_15_KernelIdeal := hPre_partials_within_15_KernelIdeal)
    ∧ quiescent_ReferenceIdeal (hReferenceIdeal := hReferenceIdeal)
    ∧ quiescent_ReferenceIdeal_pre_partials_within_15_ReferenceIdeal (hReferenceIdeal := hReferenceIdeal) (hPre_partials_within_15_ReferenceIdeal := hPre_partials_within_15_ReferenceIdeal)
    ∧ quiescent_ReferenceUnclipped (hReferenceUnclipped := hReferenceUnclipped)
    ∧ preserves_Kernel_KernelIdeal
    ∧ algebraic_KernelIdeal_ReferenceIdeal_pre_partials_within_15_KernelIdeal (hKernelIdeal := hKernelIdeal) (hReferenceIdeal := hReferenceIdeal) (hPre_partials_within_15_KernelIdeal := hPre_partials_within_15_KernelIdeal)
    ∧ algebraic_KernelIdeal_ReferenceUnclipped (hKernelIdeal := hKernelIdeal) (hReferenceUnclipped := hReferenceUnclipped)
-- ==== Pre_partials_within_15_KernelIdeal.lean ====
abbrev S8192x2048 : Shape := ⟨2, ![8192, 2048]⟩
abbrev S2048x4096 : Shape := ⟨2, ![2048, 4096]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x2048_S2048x4096_S8192x4096_1_0_0_1_n_n_wf : DotDims.WF S8192x2048 S2048x4096 S8192x4096 [1] [0] [0] [1] [] []

variable [Facts]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def fn {F : FTy → Type} [FloatOps F] (main_arg0 : FVec F S8192x2048 .f32) (main_arg1 : FVec F S2048x4096 .f32) : IVec S_ 1 :=
  let main_v0 : FVec F S8192x4096 .f32 := (fun l r => Host.dotGeneral dot_S8192x2048_S2048x4096_S8192x4096_1_0_0_1_n_n none l r) main_arg0 main_arg1
  let main_v1 : FVec F S8192x4096 .f32 := Host.absf main_v0
  let main_cst : FVec F S_ .f32 := constant S_ .f32 0x41700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Pre_partials_within_15_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x41700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Kernel.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x2048 : Shape := ⟨2, ![2048, 2048]⟩
abbrev S256x2048 : Shape := ⟨2, ![256, 2048]⟩
abbrev S2 : Shape := ⟨1, ![2]⟩
abbrev S_ : Shape := ⟨0, ![]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x2048, .bf16⟩
  | .local _ .vmem, ⟨9, _⟩ => ⟨S2048x2048, .bf16⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 3 → Bool
  | ⟨0, _⟩ => true
  | ⟨1, _⟩ => true
  | ⟨2, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 3 8 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_164 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_163 : BitVec 32 := 2048#32
  let v206 : BitVec 32 := Scalar.muli v2 c2048_i32_163
  let v207 : BitVec 32 := Scalar.addi v206 c0_i32_164
  let c0_i32_166 : BitVec 32 := 0#32
  ![v207.toNat, 0]
def k0_dev3 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_215 : BitVec 32 := 1#32
  let v269 : BitVec 32 := Scalar.muli v24 c1_i32_215
  let v270 : BitVec 32 := Scalar.addi c0_i32_216 v269
  v270.toNat
def k0_dev4 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_219 : BitVec 32 := 1#32
  let v275 : BitVec 32 := Scalar.muli v13 c1_i32_219
  let v276 : BitVec 32 := Scalar.addi c0_i32_220 v275
  v276.toNat
def k0_off2 (d0 : Dev nD) (c0_i32_221 : BitVec 32) (c0_i32_238 : BitVec 32) (c0_i32_239 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v281 : BitVec 32 := Scalar.subi v2 c0_i32_221
  let c1_i32_222 : BitVec 32 := 1#32
  let v282 : BitVec 32 := Scalar.subi v281 c1_i32_222
  let c4_i32_223 : BitVec 32 := 4#32
  let c0_i32_224 : BitVec 32 := 0#32
  let v283 : BitVec 1 := Scalar.cmpi .eq c4_i32_223 c0_i32_224
  let c1_i32_225 : BitVec 32 := 1#32
  let v284 : BitVec 32 := Scalar.select v283 c1_i32_225 c4_i32_223
  let v285 : BitVec 32 := Scalar.remsi v282 v284
  let c0_i32_227 : BitVec 32 := 0#32
  let v287 : BitVec 1 := Scalar.cmpi .slt v285 c0_i32_227
  let c0_i32_228 : BitVec 32 := 0#32
  let v288 : BitVec 1 := Scalar.cmpi .slt v284 c0_i32_228
  let v289 : BitVec 1 := Scalar.xori v287 v288
  let c0_i32_226 : BitVec 32 := 0#32
  let v286 : BitVec 1 := Scalar.cmpi .ne v285 c0_i32_226
  let v290 : BitVec 1 := Scalar.andi v289 v286
  let v291 : BitVec 32 := Scalar.addi v285 v284
  let v292 : BitVec 32 := Scalar.select v290 v291 v285
  let c2048_i32_237 : BitVec 32 := 2048#32
  let v305 : BitVec 32 := Scalar.muli v292 c2048_i32_237
  let v306 : BitVec 32 := Scalar.addi v305 c0_i32_238
  let v307 : BitVec 32 := Scalar.addi v306 c0_i32_239
  let c0_i32_241 : BitVec 32 := 0#32
  ![v307.toNat, 0]
def k0_off3 (d0 : Dev nD) (c0_i32_229 : BitVec 32) (c0_i32_283 : BitVec 32) (c0_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v293 : BitVec 32 := Scalar.addi v2 c0_i32_229
  let c1_i32_230 : BitVec 32 := 1#32
  let v294 : BitVec 32 := Scalar.addi v293 c1_i32_230
  let c4_i32_231 : BitVec 32 := 4#32
  let c0_i32_232 : BitVec 32 := 0#32
  let v295 : BitVec 1 := Scalar.cmpi .eq c4_i32_231 c0_i32_232
  let c1_i32_233 : BitVec 32 := 1#32
  let v296 : BitVec 32 := Scalar.select v295 c1_i32_233 c4_i32_231
  let v297 : BitVec 32 := Scalar.remsi v294 v296
  let c0_i32_235 : BitVec 32 := 0#32
  let v299 : BitVec 1 := Scalar.cmpi .slt v297 c0_i32_235
  let c0_i32_236 : BitVec 32 := 0#32
  let v300 : BitVec 1 := Scalar.cmpi .slt v296 c0_i32_236
  let v301 : BitVec 1 := Scalar.xori v299 v300
  let c0_i32_234 : BitVec 32 := 0#32
  let v298 : BitVec 1 := Scalar.cmpi .ne v297 c0_i32_234
  let v302 : BitVec 1 := Scalar.andi v301 v298
  let v303 : BitVec 32 := Scalar.addi v297 v296
  let v304 : BitVec 32 := Scalar.select v302 v303 v297
  let c2048_i32_282 : BitVec 32 := 2048#32
  let v362 : BitVec 32 := Scalar.muli v304 c2048_i32_282
  let v363 : BitVec 32 := Scalar.addi v362 c0_i32_283
  let v364 : BitVec 32 := Scalar.addi v363 c0_i32_284
  let c0_i32_286 : BitVec 32 := 0#32
  ![v364.toNat, 0]
def k0_dev5 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_341 : BitVec 32 := 1#32
  let v434 : BitVec 32 := Scalar.muli v13 c1_i32_341
  let v435 : BitVec 32 := Scalar.addi c0_i32_342 v434
  v435.toNat
def k0_dev6 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_357 : BitVec 32 := 1#32
  let v451 : BitVec 32 := Scalar.muli v24 c1_i32_357
  let v452 : BitVec 32 := Scalar.addi c0_i32_358 v451
  v452.toNat
def k0_dev7 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_365 : BitVec 32 := 1#32
  let v453 : BitVec 32 := Scalar.muli v24 c1_i32_365
  let v454 : BitVec 32 := Scalar.addi c0_i32_366 v453
  v454.toNat
def k0_dev8 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_369 : BitVec 32 := 1#32
  let v459 : BitVec 32 := Scalar.muli v13 c1_i32_369
  let v460 : BitVec 32 := Scalar.addi c0_i32_370 v459
  v460.toNat
def k0_dev9 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_491 : BitVec 32 := 1#32
  let v618 : BitVec 32 := Scalar.muli v13 c1_i32_491
  let v619 : BitVec 32 := Scalar.addi c0_i32_492 v618
  v619.toNat
def k0_dev10 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_507 : BitVec 32 := 1#32
  let v635 : BitVec 32 := Scalar.muli v24 c1_i32_507
  let v636 : BitVec 32 := Scalar.addi c0_i32_508 v635
  v636.toNat
def k0_dev11 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_515 : BitVec 32 := 1#32
  let v637 : BitVec 32 := Scalar.muli v24 c1_i32_515
  let v638 : BitVec 32 := Scalar.addi c0_i32_516 v637
  v638.toNat
def k0_dev12 (d0 : Dev nD) : Nat :=
  let c0_i32_520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_519 : BitVec 32 := 1#32
  let v643 : BitVec 32 := Scalar.muli v13 c1_i32_519
  let v644 : BitVec 32 := Scalar.addi c0_i32_520 v643
  v644.toNat
def k0_dev13 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_641 : BitVec 32 := 1#32
  let v802 : BitVec 32 := Scalar.muli v13 c1_i32_641
  let v803 : BitVec 32 := Scalar.addi c0_i32_642 v802
  v803.toNat
def k0_dev14 (d0 : Dev nD) : Nat :=
  let c0_i32_658 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_657 : BitVec 32 := 1#32
  let v819 : BitVec 32 := Scalar.muli v24 c1_i32_657
  let v820 : BitVec 32 := Scalar.addi c0_i32_658 v819
  v820.toNat
def k0_dev15 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_687 : BitVec 32 := 1#32
  let v859 : BitVec 32 := Scalar.muli v24 c1_i32_687
  let v860 : BitVec 32 := Scalar.addi c0_i32_688 v859
  v860.toNat
def k0_dev16 (d0 : Dev nD) : Nat :=
  let c0_i32_692 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_691 : BitVec 32 := 1#32
  let v865 : BitVec 32 := Scalar.muli v13 c1_i32_691
  let v866 : BitVec 32 := Scalar.addi c0_i32_692 v865
  v866.toNat
def k0_off4 (d0 : Dev nD) (c0_i32_694 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_659 : BitVec 32 := 1#32
  let v821 : BitVec 32 := Scalar.addi v2 c1_i32_659
  let c4_i32_660 : BitVec 32 := 4#32
  let c0_i32_661 : BitVec 32 := 0#32
  let v822 : BitVec 1 := Scalar.cmpi .eq c4_i32_660 c0_i32_661
  let c1_i32_662 : BitVec 32 := 1#32
  let v823 : BitVec 32 := Scalar.select v822 c1_i32_662 c4_i32_660
  let v824 : BitVec 32 := Scalar.remsi v821 v823
  let c0_i32_664 : BitVec 32 := 0#32
  let v826 : BitVec 1 := Scalar.cmpi .slt v824 c0_i32_664
  let c0_i32_665 : BitVec 32 := 0#32
  let v827 : BitVec 1 := Scalar.cmpi .slt v823 c0_i32_665
  let v828 : BitVec 1 := Scalar.xori v826 v827
  let c0_i32_663 : BitVec 32 := 0#32
  let v825 : BitVec 1 := Scalar.cmpi .ne v824 c0_i32_663
  let v829 : BitVec 1 := Scalar.andi v828 v825
  let v830 : BitVec 32 := Scalar.addi v824 v823
  let v831 : BitVec 32 := Scalar.select v829 v830 v824
  let c2048_i32_693 : BitVec 32 := 2048#32
  let v871 : BitVec 32 := Scalar.muli v831 c2048_i32_693
  let v872 : BitVec 32 := Scalar.addi v871 c0_i32_694
  let c0_i32_696 : BitVec 32 := 0#32
  ![v872.toNat, 0]
def k0_off5 (d0 : Dev nD) (c1_i32_666 : BitVec 32) (c0_i32_698 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v832 : BitVec 32 := Scalar.subi v2 c1_i32_666
  let c4_i32_667 : BitVec 32 := 4#32
  let c0_i32_668 : BitVec 32 := 0#32
  let v833 : BitVec 1 := Scalar.cmpi .eq c4_i32_667 c0_i32_668
  let c1_i32_669 : BitVec 32 := 1#32
  let v834 : BitVec 32 := Scalar.select v833 c1_i32_669 c4_i32_667
  let v835 : BitVec 32 := Scalar.remsi v832 v834
  let c0_i32_671 : BitVec 32 := 0#32
  let v837 : BitVec 1 := Scalar.cmpi .slt v835 c0_i32_671
  let c0_i32_672 : BitVec 32 := 0#32
  let v838 : BitVec 1 := Scalar.cmpi .slt v834 c0_i32_672
  let v839 : BitVec 1 := Scalar.xori v837 v838
  let c0_i32_670 : BitVec 32 := 0#32
  let v836 : BitVec 1 := Scalar.cmpi .ne v835 c0_i32_670
  let v840 : BitVec 1 := Scalar.andi v839 v836
  let v841 : BitVec 32 := Scalar.addi v835 v834
  let v842 : BitVec 32 := Scalar.select v840 v841 v835
  let c2048_i32_697 : BitVec 32 := 2048#32
  let v876 : BitVec 32 := Scalar.muli v842 c2048_i32_697
  let v877 : BitVec 32 := Scalar.addi v876 c0_i32_698
  let c2048_i32_700 : BitVec 32 := 2048#32
  ![v877.toNat, 2048]
def k0_off5_at (r : Fin 8) : BitVec 32 × BitVec 32 :=
  if r.val < 4 then
    if r.val < 2 then
      if r.val < 1 then
        (1#32, 0#32)
      else
        (0#32, 0#32)
    else
      if r.val < 3 then
        (4294967295#32, 0#32)
      else
        (4294967294#32, 0#32)
  else
    if r.val < 6 then
      if r.val < 5 then
        (1#32, 1024#32)
      else
        (0#32, 1024#32)
    else
      if r.val < 7 then
        (4294967295#32, 1024#32)
      else
        (4294967294#32, 1024#32)
def k0_dev17 (d0 : Dev nD) : Nat :=
  let c0_i32_714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_713 : BitVec 32 := 1#32
  let v891 : BitVec 32 := Scalar.muli v13 c1_i32_713
  let v892 : BitVec 32 := Scalar.addi c0_i32_714 v891
  v892.toNat
def k0_dev18 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_727 : BitVec 32 := 1#32
  let v903 : BitVec 32 := Scalar.muli v24 c1_i32_727
  let v904 : BitVec 32 := Scalar.addi c0_i32_728 v903
  v904.toNat
def k0_dev19 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_735 : BitVec 32 := 1#32
  let v905 : BitVec 32 := Scalar.muli v24 c1_i32_735
  let v906 : BitVec 32 := Scalar.addi c0_i32_736 v905
  v906.toNat
def k0_dev20 (d0 : Dev nD) : Nat :=
  let c0_i32_740 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_739 : BitVec 32 := 1#32
  let v911 : BitVec 32 := Scalar.muli v13 c1_i32_739
  let v912 : BitVec 32 := Scalar.addi c0_i32_740 v911
  v912.toNat
def k0_off6 (d0 : Dev nD) (c0_i32_741 : BitVec 32) (c0_i32_751 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v917 : BitVec 32 := Scalar.subi v2 c0_i32_741
  let c4_i32_742 : BitVec 32 := 4#32
  let c0_i32_743 : BitVec 32 := 0#32
  let v918 : BitVec 1 := Scalar.cmpi .eq c4_i32_742 c0_i32_743
  let c1_i32_744 : BitVec 32 := 1#32
  let v919 : BitVec 32 := Scalar.select v918 c1_i32_744 c4_i32_742
  let v920 : BitVec 32 := Scalar.remsi v917 v919
  let c0_i32_746 : BitVec 32 := 0#32
  let v922 : BitVec 1 := Scalar.cmpi .slt v920 c0_i32_746
  let c0_i32_747 : BitVec 32 := 0#32
  let v923 : BitVec 1 := Scalar.cmpi .slt v919 c0_i32_747
  let v924 : BitVec 1 := Scalar.xori v922 v923
  let c0_i32_745 : BitVec 32 := 0#32
  let v921 : BitVec 1 := Scalar.cmpi .ne v920 c0_i32_745
  let v925 : BitVec 1 := Scalar.andi v924 v921
  let v926 : BitVec 32 := Scalar.addi v920 v919
  let v927 : BitVec 32 := Scalar.select v925 v926 v920
  let c2048_i32_750 : BitVec 32 := 2048#32
  let v931 : BitVec 32 := Scalar.muli v927 c2048_i32_750
  let v932 : BitVec 32 := Scalar.addi v931 c0_i32_751
  let c0_i32_753 : BitVec 32 := 0#32
  ![v932.toNat, 0]
def k0_dev21 (d0 : Dev nD) : Nat :=
  let c0_i32_780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_779 : BitVec 32 := 1#32
  let v965 : BitVec 32 := Scalar.muli v13 c1_i32_779
  let v966 : BitVec 32 := Scalar.addi c0_i32_780 v965
  v966.toNat
def k0_dev22 (d0 : Dev nD) : Nat :=
  let c0_i32_794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_793 : BitVec 32 := 1#32
  let v977 : BitVec 32 := Scalar.muli v24 c1_i32_793
  let v978 : BitVec 32 := Scalar.addi c0_i32_794 v977
  v978.toNat
def k0_dev23 (d0 : Dev nD) : Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_801 : BitVec 32 := 1#32
  let v979 : BitVec 32 := Scalar.muli v24 c1_i32_801
  let v980 : BitVec 32 := Scalar.addi c0_i32_802 v979
  v980.toNat
def k0_dev24 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_805 : BitVec 32 := 1#32
  let v985 : BitVec 32 := Scalar.muli v13 c1_i32_805
  let v986 : BitVec 32 := Scalar.addi c0_i32_806 v985
  v986.toNat
def k0_off7 (d0 : Dev nD) (c0_i32_834 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_832 : BitVec 32 := 2048#32
  let v1029 : BitVec 32 := Scalar.muli v2 c2048_i32_832
  let c1024_i32_833 : BitVec 32 := 1024#32
  let v1030 : BitVec 32 := Scalar.addi v1029 c1024_i32_833
  let v1031 : BitVec 32 := Scalar.addi v1030 c0_i32_834
  let c0_i32_836 : BitVec 32 := 0#32
  ![v1031.toNat, 0]
def k0_dev25 (d0 : Dev nD) : Nat :=
  let c0_i32_910 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_909 : BitVec 32 := 1#32
  let v1124 : BitVec 32 := Scalar.muli v13 c1_i32_909
  let v1125 : BitVec 32 := Scalar.addi c0_i32_910 v1124
  v1125.toNat
def k0_dev26 (d0 : Dev nD) : Nat :=
  let c0_i32_932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_931 : BitVec 32 := 1#32
  let v1151 : BitVec 32 := Scalar.muli v24 c1_i32_931
  let v1152 : BitVec 32 := Scalar.addi c0_i32_932 v1151
  v1152.toNat
def k0_dev27 (d0 : Dev nD) : Nat :=
  let c0_i32_940 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_939 : BitVec 32 := 1#32
  let v1153 : BitVec 32 := Scalar.muli v24 c1_i32_939
  let v1154 : BitVec 32 := Scalar.addi c0_i32_940 v1153
  v1154.toNat
def k0_dev28 (d0 : Dev nD) : Nat :=
  let c0_i32_944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_943 : BitVec 32 := 1#32
  let v1159 : BitVec 32 := Scalar.muli v13 c1_i32_943
  let v1160 : BitVec 32 := Scalar.addi c0_i32_944 v1159
  v1160.toNat
def k0_dev29 (d0 : Dev nD) : Nat :=
  let c0_i32_1066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1065 : BitVec 32 := 1#32
  let v1318 : BitVec 32 := Scalar.muli v13 c1_i32_1065
  let v1319 : BitVec 32 := Scalar.addi c0_i32_1066 v1318
  v1319.toNat
def k0_dev30 (d0 : Dev nD) : Nat :=
  let c0_i32_1082 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1081 : BitVec 32 := 1#32
  let v1335 : BitVec 32 := Scalar.muli v24 c1_i32_1081
  let v1336 : BitVec 32 := Scalar.addi c0_i32_1082 v1335
  v1336.toNat
def k0_dev31 (d0 : Dev nD) : Nat :=
  let c0_i32_1090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1089 : BitVec 32 := 1#32
  let v1337 : BitVec 32 := Scalar.muli v24 c1_i32_1089
  let v1338 : BitVec 32 := Scalar.addi c0_i32_1090 v1337
  v1338.toNat
def k0_dev32 (d0 : Dev nD) : Nat :=
  let c0_i32_1094 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1093 : BitVec 32 := 1#32
  let v1343 : BitVec 32 := Scalar.muli v13 c1_i32_1093
  let v1344 : BitVec 32 := Scalar.addi c0_i32_1094 v1343
  v1344.toNat
def k0_dev33 (d0 : Dev nD) : Nat :=
  let c0_i32_1216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1215 : BitVec 32 := 1#32
  let v1502 : BitVec 32 := Scalar.muli v13 c1_i32_1215
  let v1503 : BitVec 32 := Scalar.addi c0_i32_1216 v1502
  v1503.toNat
def k0_dev34 (d0 : Dev nD) : Nat :=
  let c0_i32_1232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1231 : BitVec 32 := 1#32
  let v1519 : BitVec 32 := Scalar.muli v24 c1_i32_1231
  let v1520 : BitVec 32 := Scalar.addi c0_i32_1232 v1519
  v1520.toNat
def k0_dev35 (d0 : Dev nD) : Nat :=
  let c0_i32_1240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1239 : BitVec 32 := 1#32
  let v1521 : BitVec 32 := Scalar.muli v24 c1_i32_1239
  let v1522 : BitVec 32 := Scalar.addi c0_i32_1240 v1521
  v1522.toNat
def k0_dev36 (d0 : Dev nD) : Nat :=
  let c0_i32_1244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1243 : BitVec 32 := 1#32
  let v1527 : BitVec 32 := Scalar.muli v13 c1_i32_1243
  let v1528 : BitVec 32 := Scalar.addi c0_i32_1244 v1527
  v1528.toNat
def k0_dev37 (d0 : Dev nD) : Nat :=
  let c0_i32_1366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1365 : BitVec 32 := 1#32
  let v1686 : BitVec 32 := Scalar.muli v13 c1_i32_1365
  let v1687 : BitVec 32 := Scalar.addi c0_i32_1366 v1686
  v1687.toNat
def k0_dev38 (d0 : Dev nD) : Nat :=
  let c0_i32_1382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1381 : BitVec 32 := 1#32
  let v1703 : BitVec 32 := Scalar.muli v24 c1_i32_1381
  let v1704 : BitVec 32 := Scalar.addi c0_i32_1382 v1703
  v1704.toNat
def k0_dev39 (d0 : Dev nD) : Nat :=
  let c0_i32_1412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1411 : BitVec 32 := 1#32
  let v1743 : BitVec 32 := Scalar.muli v24 c1_i32_1411
  let v1744 : BitVec 32 := Scalar.addi c0_i32_1412 v1743
  v1744.toNat
def k0_dev40 (d0 : Dev nD) : Nat :=
  let c0_i32_1416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1415 : BitVec 32 := 1#32
  let v1749 : BitVec 32 := Scalar.muli v13 c1_i32_1415
  let v1750 : BitVec 32 := Scalar.addi c0_i32_1416 v1749
  v1750.toNat
def k0_dev41 (d0 : Dev nD) : Nat :=
  let c0_i32_1438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1437 : BitVec 32 := 1#32
  let v1775 : BitVec 32 := Scalar.muli v13 c1_i32_1437
  let v1776 : BitVec 32 := Scalar.addi c0_i32_1438 v1775
  v1776.toNat
def k0_dev42 (d0 : Dev nD) : Nat :=
  let c0_i32_1452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1451 : BitVec 32 := 1#32
  let v1787 : BitVec 32 := Scalar.muli v24 c1_i32_1451
  let v1788 : BitVec 32 := Scalar.addi c0_i32_1452 v1787
  v1788.toNat
def k0_dev43 (d0 : Dev nD) : Nat :=
  let c0_i32_1460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1459 : BitVec 32 := 1#32
  let v1789 : BitVec 32 := Scalar.muli v24 c1_i32_1459
  let v1790 : BitVec 32 := Scalar.addi c0_i32_1460 v1789
  v1790.toNat
def k0_dev44 (d0 : Dev nD) : Nat :=
  let c0_i32_1464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1463 : BitVec 32 := 1#32
  let v1795 : BitVec 32 := Scalar.muli v13 c1_i32_1463
  let v1796 : BitVec 32 := Scalar.addi c0_i32_1464 v1795
  v1796.toNat
def k0_dev45 (d0 : Dev nD) : Nat :=
  let c0_i32_1504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1503 : BitVec 32 := 1#32
  let v1849 : BitVec 32 := Scalar.muli v13 c1_i32_1503
  let v1850 : BitVec 32 := Scalar.addi c0_i32_1504 v1849
  v1850.toNat
def k0_dev46 (d0 : Dev nD) : Nat :=
  let c0_i32_1518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1517 : BitVec 32 := 1#32
  let v1861 : BitVec 32 := Scalar.muli v24 c1_i32_1517
  let v1862 : BitVec 32 := Scalar.addi c0_i32_1518 v1861
  v1862.toNat
def k0_dev47 (d0 : Dev nD) : Nat :=
  let c0_i32_1526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1525 : BitVec 32 := 1#32
  let v1863 : BitVec 32 := Scalar.muli v24 c1_i32_1525
  let v1864 : BitVec 32 := Scalar.addi c0_i32_1526 v1863
  v1864.toNat
def k0_dev48 (d0 : Dev nD) : Nat :=
  let c0_i32_1530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1529 : BitVec 32 := 1#32
  let v1869 : BitVec 32 := Scalar.muli v13 c1_i32_1529
  let v1870 : BitVec 32 := Scalar.addi c0_i32_1530 v1869
  v1870.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== ReferenceUnclipped.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Prog.lean ====
/-
  The kernel body, written as the run reads it: a handful of operations of the two rings — fill a staging block
  strip by strip, multiply, send, wait, grant, store — each a function of the direction, the round and the step,
  and the body as their sequence. `body_eq` says that the printed body is that sequence.
-/
module

public import proofs.«01_k».proof.Proof.Gen.KernelIdeal.Points
public import Idealize.ShloMosaic.Lib.Pipeline.Regions

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- A program of one core. -/
abbrev PG (F : FTy → Type) [FloatOps F] := Prog (TpuEff nD τ sig (Elt F) Λ₀ .tc) PUnit

/-! ## Buffers and semaphores by direction -/

/-- A block of one direction: half a chunk's rows by half the columns. -/
abbrev Blk := Memref sig .tc .vmem S1024x2048 .bf16

/-- The two accumulators of direction `d`. -/
def buf : Fin 2 → Fin 2 → Blk
  | 0, 0 => Memref.whole cc0_scratch0
  | 0, 1 => Memref.whole cc0_scratch1
  | 1, 0 => Memref.whole cc0_scratch2
  | 1, 1 => Memref.whole cc0_scratch3

/-- Where direction `d`'s blocks arrive. -/
def work : Fin 2 → Blk
  | 0 => Memref.whole cc0_scratch4
  | 1 => Memref.whole cc0_scratch5

/-- A block of rows of `x`, as direction `d` stages it. -/
def xb : Fin 2 → Blk
  | 0 => Memref.whole cc0_scratch6
  | 1 => Memref.whole cc0_scratch7

/-- Direction `d`'s half of `w`. -/
def wh : Fin 2 → Memref sig .tc .vmem S2048x2048 .bf16
  | 0 => Memref.whole cc0_scratch8
  | 1 => Memref.whole cc0_scratch9

/-- The strip a copy from HBM lands in. -/
abbrev stg : Memref sig .tc .vmem S256x2048 .f32 := Memref.whole cc0_scratch10

theorem buf_whole : ∀ d p, (buf d p).IsWhole
  | 0, 0 => Memref.isWhole_whole _
  | 0, 1 => Memref.isWhole_whole _
  | 1, 0 => Memref.isWhole_whole _
  | 1, 1 => Memref.isWhole_whole _

theorem work_whole : ∀ d, (work d).IsWhole
  | 0 => Memref.isWhole_whole _
  | 1 => Memref.isWhole_whole _

theorem xb_whole : ∀ d, (xb d).IsWhole
  | 0 => Memref.isWhole_whole _
  | 1 => Memref.isWhole_whole _

theorem wh_whole : ∀ d, (wh d).IsWhole
  | 0 => Memref.isWhole_whole _
  | 1 => Memref.isWhole_whole _

theorem stg_whole : stg.IsWhole := Memref.isWhole_whole _

def sendS : Fin 2 → DmaSem sig
  | 0 => (0 : Fin 8)
  | 1 => (1 : Fin 8)
def recvS : Fin 2 → DmaSem sig
  | 0 => (2 : Fin 8)
  | 1 => (3 : Fin 8)
def loadS : DmaSem sig := (4 : Fin 8)
def storeS : Fin 2 → DmaSem sig
  | 0 => (6 : Fin 8)
  | 1 => (7 : Fin 8)
def credS : Fin 2 → Sem sig
  | 0 => (0 : Fin 3)
  | 1 => (1 : Fin 3)
def barS : Sem sig := (2 : Fin 3)

/-- The neighbour direction `d` sends to. -/
def nx : Fin 2 → Dev nD → Dev nD
  | 0, c => ⟨k0_dev2 c, k0_dev2_lt c⟩
  | 1, c => ⟨k0_dev1 c, k0_dev1_lt c⟩

/-- The neighbour direction `d` receives from. -/
def pv : Fin 2 → Dev nD → Dev nD
  | 0, c => ⟨k0_dev1 c, k0_dev1_lt c⟩
  | 1, c => ⟨k0_dev2 c, k0_dev2_lt c⟩

/-! ## Offsets -/

/-- Where strip `k` of the block of `x` that direction `d` multiplies in its step `s` of round `r` begins. -/
def xOff (c : Dev nD) : Fin 2 → Fin 2 → Fin 4 → Fin 4 → Fin 2 → Nat
  | _, r, 0, k => match r with
    | 0 => k0_off1 c (BitVec.ofNat 32 (256 * k.val))
    | 1 => k0_off7 c (BitVec.ofNat 32 (256 * k.val))
  | 0, r, 1, k => k0_off2 c (BitVec.ofNat 32 (0 : Fin 3).val) (BitVec.ofNat 32 (1024 * r.val)) (BitVec.ofNat 32 (256 * k.val))
  | 0, r, 2, k => k0_off2 c (BitVec.ofNat 32 (1 : Fin 3).val) (BitVec.ofNat 32 (1024 * r.val)) (BitVec.ofNat 32 (256 * k.val))
  | 0, r, 3, k => k0_off2 c (BitVec.ofNat 32 (2 : Fin 3).val) (BitVec.ofNat 32 (1024 * r.val)) (BitVec.ofNat 32 (256 * k.val))
  | 1, r, 1, k => k0_off3 c (BitVec.ofNat 32 (0 : Fin 3).val) (BitVec.ofNat 32 (1024 * r.val)) (BitVec.ofNat 32 (256 * k.val))
  | 1, r, 2, k => k0_off3 c (BitVec.ofNat 32 (1 : Fin 3).val) (BitVec.ofNat 32 (1024 * r.val)) (BitVec.ofNat 32 (256 * k.val))
  | 1, r, 3, k => k0_off3 c (BitVec.ofNat 32 (2 : Fin 3).val) (BitVec.ofNat 32 (1024 * r.val)) (BitVec.ofNat 32 (256 * k.val))

/-- The chunk of rows that direction `d` multiplies in its step `s`: its own first, then the ones its neighbours
    upstream began with. -/
def chunkOf (c : Dev nD) : Fin 2 → Fin 4 → Fin 4
  | 0, s => c - s
  | 1, s => c + s

theorem xOff_eq : ∀ (c : Dev nD) (d r : Fin 2) (s k : Fin 4),
    xOff c d r s k = ![2048 * (chunkOf c d s).val + 1024 * r.val + 256 * k.val, 0] := by decide +kernel

theorem xOff_inb (c : Dev nD) (d r : Fin 2) (s k : Fin 4) :
    ∀ a, xOff c d r s k a + S256x2048.size a ≤ S8192x2048.size a := by
  revert c d r s k; decide +kernel

/-- Where direction `d`'s store `j` of round `r` begins in the result. -/
def outOff (c : Dev nD) : Fin 2 → Fin 2 → Fin 4 → Fin 2 → Nat
  | 0, r, 0 => k0_off4 c (BitVec.ofNat 32 (1024 * r.val))
  | 0, r, 1 => k0_off6 c (BitVec.ofNat 32 (0 : Fin 3).val) (BitVec.ofNat 32 (1024 * r.val))
  | 0, r, 2 => k0_off6 c (BitVec.ofNat 32 (1 : Fin 3).val) (BitVec.ofNat 32 (1024 * r.val))
  | 0, r, 3 => k0_off6 c (BitVec.ofNat 32 (2 : Fin 3).val) (BitVec.ofNat 32 (1024 * r.val))
  | 1, 0, 0 => k0_off5 c (k0_off5_at 0).1 (k0_off5_at 0).2
  | 1, 0, 1 => k0_off5 c (k0_off5_at 1).1 (k0_off5_at 1).2
  | 1, 0, 2 => k0_off5 c (k0_off5_at 2).1 (k0_off5_at 2).2
  | 1, 0, 3 => k0_off5 c (k0_off5_at 3).1 (k0_off5_at 3).2
  | 1, 1, 0 => k0_off5 c (k0_off5_at 4).1 (k0_off5_at 4).2
  | 1, 1, 1 => k0_off5 c (k0_off5_at 5).1 (k0_off5_at 5).2
  | 1, 1, 2 => k0_off5 c (k0_off5_at 6).1 (k0_off5_at 6).2
  | 1, 1, 3 => k0_off5 c (k0_off5_at 7).1 (k0_off5_at 7).2

/-- The chunk of rows direction `d`'s store `j` fills. -/
def outChunk (c : Dev nD) : Fin 2 → Fin 4 → Fin 4
  | 0, j => c + 1 - j
  | 1, j => c - 1 + j

theorem outOff_eq : ∀ (c : Dev nD) (d r : Fin 2) (j : Fin 4),
    outOff c d r j = ![2048 * (outChunk c d j).val + 1024 * r.val, 2048 * d.val] := by decide +kernel

theorem outOff_inb (c : Dev nD) (d r : Fin 2) (j : Fin 4) :
    ∀ a, outOff c d r j a + S1024x2048.size a ≤ S8192x4096.size a := by
  revert c d r j; decide +kernel

theorem outOff_words (c : Dev nD) (d r : Fin 2) (j : Fin 4) :
    (Rect.unit (s := S8192x4096) (outOff c d r j) S1024x2048.size (outOff_inb c d r j)).WholeWords (EltTy.packing .bf16) := by
  revert c d r j; decide +kernel

theorem wOff_inb (d : Fin 2) (k : Fin 8) :
    ∀ a, (![256 * k.val, 2048 * d.val] : Fin 2 → Nat) a + S256x2048.size a ≤ S2048x4096.size a := by
  revert d k; decide

/-- The strip of `x` that `xOff` names. -/
def xSl (c : Dev nD) (d r : Fin 2) (s k : Fin 4) : Memref sig .tc .hbm S256x2048 .f32 :=
  (Memref.whole main_arg0).slice (Rect.unit (s := S8192x2048) (xOff c d r s k) S256x2048.size (xOff_inb c d r s k)) (fun _ => rfl)

/-- Strip `k` of direction `d`'s half of `w`. -/
def wSl (d : Fin 2) (k : Fin 8) : Memref sig .tc .hbm S256x2048 .f32 :=
  (Memref.whole main_arg1).slice (Rect.unit (s := S2048x4096) ![256 * k.val, 2048 * d.val] S256x2048.size (wOff_inb d k)) (fun _ => rfl)

/-- The block of the result that direction `d`'s store `j` of round `r` fills. -/
def oSl (c : Dev nD) (d r : Fin 2) (j : Fin 4) : Memref sig .tc .hbm S1024x2048 .bf16 :=
  (Memref.whole main_v1).slice (Rect.unit (s := S8192x4096) (outOff c d r j) S1024x2048.size (outOff_inb c d r j)) (fun _ => rfl)

theorem oSl_words (c : Dev nD) (d r : Fin 2) (j : Fin 4) : (oSl c d r j).view.WordExact :=
  (Memref.isWhole_whole main_v1).wordExact_slice rfl _ (outOff_words c d r j)

/-! ## What is stored -/

/-- A strip narrowed. -/
def pStrip (v : Vec F S256x2048 .f32) : FVec F S256x2048 .bf16 :=
  shapeCast S256x2048 (truncf .bf16 v bitsLt_bf16_f32) shapeCasts_S256x2048_S256x2048

/-- A product of a block of rows and a half of `w`, narrowed. -/
def pDot (x : Vec F S1024x2048 .bf16) (w : Vec F S2048x2048 .bf16) : FVec F S1024x2048 .bf16 :=
  shapeCast S1024x2048 (truncf .bf16 (matmul dot_S1024x2048_S2048x2048_S1024x2048_1_0_0_1_n_n none x w
    (constant S1024x2048 .f32 0x00000000#32)) bitsLt_bf16_f32) shapeCasts_S1024x2048_S1024x2048

/-- The sum of two blocks, narrowed. -/
def pAdd (a b : Vec F S1024x2048 .bf16) : FVec F S1024x2048 .bf16 :=
  shapeCast S1024x2048 (truncf .bf16 (addf (extf .f32 a bitsLt_bf16_f32) (extf .f32 b bitsLt_bf16_f32)) bitsLt_bf16_f32)
    shapeCasts_S1024x2048_S1024x2048

/-- A block times its logistic, narrowed. -/
def pAct (a : Vec F S1024x2048 .bf16) : FVec F S1024x2048 .bf16 :=
  shapeCast S1024x2048 (truncf .bf16 (mulf (extf .f32 a bitsLt_bf16_f32) (logistic (extf .f32 a bitsLt_bf16_f32))) bitsLt_bf16_f32)
    shapeCasts_S1024x2048_S1024x2048

/-- A block as it stands. -/
def pCpy (a : Vec F S1024x2048 .bf16) : FVec F S1024x2048 .bf16 :=
  shapeCast S1024x2048 a shapeCasts_S1024x2048_S1024x2048

/-! ## The operations, each before the program that follows it -/

/-- A block of a whole memref, all of it. -/
abbrev rAll : Rect S1024x2048 := Rect.unit (s := S1024x2048) ![0, 0] S1024x2048.size inb_S1024x2048_S1024x2048_0_0

theorem blk_stores (m : Blk) (h : m.IsWhole) : (m.access rAll).Stores Finset.univ :=
  View.stores_vmem h_S1024x2048 (h.storeExact_slice rfl _ packedbf16_S1024x2048_S1024x2048_0_0) (fun _ => rfl)

/-- Read all of a block. -/
def ld (m : Blk) (k : Vec F S1024x2048 .bf16 → PG F) : PG F :=
  .op (.load m rAll.toLoadRect (View.loadsAt_vmem h_S1024x2048)) k

/-- Overwrite a block, after the read of it that the printed program discards. -/
def st (m : Blk) (h : m.IsWhole) (v : FVec F S1024x2048 .bf16) (k : PG F) : PG F :=
  .op (.load m rAll.toLoadRect (View.loadsAt_vmem h_S1024x2048)) fun _ =>
  .op (.store m rAll v Finset.univ (blk_stores m h) (.inl rfl)) fun _ => k

/-- One strip: copied into the staging strip, narrowed, stored into rows `o` and on of `dst`. -/
def strip {R : Nat} (src : Memref sig .tc .hbm S256x2048 .f32) (dst : Memref sig .tc .vmem ⟨2, ![R, 2048]⟩ .bf16) (o : Nat)
    (hin : ∀ a, (![o, 0] : Fin 2 → Nat) a + S256x2048.size a ≤ (⟨2, ![R, 2048]⟩ : Shape).size a)
    (hst : (dst.access (Rect.unit (s := ⟨2, ![R, 2048]⟩) ![o, 0] S256x2048.size hin)).Stores Finset.univ) (k : PG F) : PG F :=
  .op (.enqueueDma src (.here stg) (.dma loadS) (View.wordExact_bits rfl) stg_whole.wordExact ⟨Or.inl rfl, trivial⟩) fun _ =>
  .op (.waitDma2 loadS src stg (View.wordExact_bits rfl) stg_whole.wordExact) fun _ =>
  .op (.load stg (Rect.unit (s := S256x2048) ![0, 0] S256x2048.size inb_S256x2048_S256x2048_0_0).toLoadRect
    (View.loadsAt_vmem h_S256x2048)) fun v =>
  .op (.load dst (Rect.unit (s := ⟨2, ![R, 2048]⟩) ![o, 0] S256x2048.size hin).toLoadRect (View.loadsAt_vmem h_S256x2048)) fun _ =>
  .op (.store dst (Rect.unit (s := ⟨2, ![R, 2048]⟩) ![o, 0] S256x2048.size hin) (pStrip v) Finset.univ hst (.inl rfl)) fun _ => k

/-- `n` stages in turn. -/
def stages : (n : Nat) → (Fin n → PG F → PG F) → PG F → PG F
  | 0, _, k => k
  | n + 1, f, k => f 0 (stages n (fun i => f i.succ) k)

theorem wIn (k : Fin 8) : ∀ a, (![256 * k.val, 0] : Fin 2 → Nat) a + S256x2048.size a ≤ S2048x2048.size a := by
  revert k; decide
theorem xIn (k : Fin 4) : ∀ a, (![256 * k.val, 0] : Fin 2 → Nat) a + S256x2048.size a ≤ S1024x2048.size a := by
  revert k; decide
theorem wPacked (k : Fin 8) :
    (Rect.unit (s := S2048x2048) ![256 * k.val, 0] S256x2048.size (wIn k)).PackedRows (EltTy.packing .bf16) := by
  revert k; decide
theorem xPacked (k : Fin 4) :
    (Rect.unit (s := S1024x2048) ![256 * k.val, 0] S256x2048.size (xIn k)).PackedRows (EltTy.packing .bf16) := by
  revert k; decide

/-- Fill direction `d`'s half of `w`. -/
def loadW (d : Fin 2) (k : PG F) : PG F :=
  stages 8 (fun i => strip (wSl d i) (wh d) (256 * i.val) (wIn i)
    (View.stores_vmem h_S256x2048 ((wh_whole d).storeExact_slice rfl _ (wPacked i)) (fun _ => rfl))) k

/-- Fill the block of rows for direction `d`'s step `s` of round `r`, into the staging block `b`. -/
def loadX (c : Dev nD) (b d r : Fin 2) (s : Fin 4) (k : PG F) : PG F :=
  stages 4 (fun i => strip (xSl c d r s i) (xb b) (256 * i.val) (xIn i)
    (View.stores_vmem h_S256x2048 ((xb_whole b).storeExact_slice rfl _ (xPacked i)) (fun _ => rfl))) k

/-- Multiply the staged block `b` by direction `d`'s half of `w` into the accumulator `p`. -/
def dots (b d p : Fin 2) (k : PG F) : PG F :=
  ld (xb b) fun x =>
  .op (.load (wh d) (Rect.unit (s := S2048x2048) ![0, 0] S2048x2048.size inb_S2048x2048_S2048x2048_0_0).toLoadRect
    (View.loadsAt_vmem h_S2048x2048)) fun w =>
  st (buf d p) (buf_whole d p) (pDot x w) k

/-- Send accumulator `p` to the next device of direction `d`. -/
def send (c : Dev nD) (d p : Fin 2) (k : PG F) : PG F :=
  .op (.enqueueDma (buf d p) (.remote (Dev.tc (nx d c)) (work d) (.dma (sendS d))) (.dma (recvS d))
    (buf_whole d p).wordExact (work_whole d).wordExact ⟨⟨rfl, Or.inl rfl⟩, trivial⟩) fun _ => k

/-- Wait until the block sent from `p` has left and the one from the previous device has come. -/
def waitXfer (d p : Fin 2) (k : PG F) : PG F :=
  .op (.waitDma2 (sendS d) (work d) (buf d p) (work_whole d).wordExact (buf_whole d p).wordExact) fun _ =>
  .op (.waitDma2 (recvS d) (buf d p) (work d) (buf_whole d p).wordExact (work_whole d).wordExact) fun _ => k

/-- Tell the previous device of direction `d` that the arrival block is free again. -/
def grant (c : Dev nD) (d : Fin 2) (k : PG F) : PG F :=
  .op (.semSignal (pv d c, .tc) (credS d) (1#32).toInt) fun _ => k

/-- Wait until the next device of direction `d` has freed its arrival block. -/
def credit (d : Fin 2) (k : PG F) : PG F :=
  .op (.semWait (credS d) (1#32).toInt) fun _ => k

/-- Begin storing `m` into the result's block `j`. -/
def stOut (c : Dev nD) (d r : Fin 2) (j : Fin 4) (m : Blk) (h : m.IsWhole) (k : PG F) : PG F :=
  .op (.enqueueDma m (.here (oSl c d r j)) (.dma (storeS d)) h.wordExact (oSl_words c d r j) ⟨Or.inl rfl, trivial⟩) fun _ => k

/-- Wait until that store has ended. -/
def wtOut (c : Dev nD) (d r : Fin 2) (j : Fin 4) (m : Blk) (h : m.IsWhole) (k : PG F) : PG F :=
  .op (.waitDma2 (storeS d) m (oSl c d r j) h.wordExact (oSl_words c d r j)) fun _ => k

/-! ## The body -/

/-- A step of reducing: send accumulator `p`, compute the next product into `q`, add what arrives to it, in both
    directions. -/
def rsStep (c : Dev nD) (r : Fin 2) (s : Fin 4) (p q : Fin 2) (k : PG F) : PG F :=
  send c 0 p <| send c 1 p <|
  loadX c 0 0 r s <| dots 0 0 q <| loadX c 1 1 r s <| dots 1 1 q <|
  waitXfer 0 p <| (ld (buf 0 q) fun a => ld (work 0) fun b => st (buf 0 q) (buf_whole 0 q) (pAdd a b) <|
  grant c 0 <|
  waitXfer 1 p <| (ld (buf 1 q) fun a => ld (work 1) fun b => st (buf 1 q) (buf_whole 1 q) (pAdd a b) <|
  grant c 1 k))

/-- Both directions' credits. -/
def credits (k : PG F) : PG F := credit 0 <| credit 1 k

/-- Apply the activation to accumulator `p` of direction `d`. -/
def act (d p : Fin 2) (k : PG F) : PG F :=
  ld (buf d p) fun a => st (buf d p) (buf_whole d p) (pAct a) k

/-- Take over what has arrived into accumulator `q` and free the arrival block. -/
def take (c : Dev nD) (d p q : Fin 2) (k : PG F) : PG F :=
  waitXfer d p <| ld (work d) fun a => st (buf d q) (buf_whole d q) (pCpy a) <| grant c d k

/-- A round after its first product: reduce, activate, gather up to the last step's stores. -/
def half (c : Dev nD) (r : Fin 2) (k : PG F) : PG F :=
  rsStep c r 1 0 1 <| credits <| rsStep c r 2 1 0 <| credits <| rsStep c r 3 0 1 <|
  act 0 1 <| act 1 1 <|
  credits <| send c 0 1 <| send c 1 1 <|
  stOut c 0 r 0 (buf 0 1) (buf_whole 0 1) <| stOut c 1 r 0 (buf 1 1) (buf_whole 1 1) <|
  take c 0 1 0 <| take c 1 1 0 <|
  credits <| send c 0 0 <| send c 1 0 <|
  wtOut c 0 r 0 (buf 0 1) (buf_whole 0 1) <| stOut c 0 r 1 (buf 0 0) (buf_whole 0 0) <|
  wtOut c 1 r 0 (buf 1 1) (buf_whole 1 1) <| stOut c 1 r 1 (buf 1 0) (buf_whole 1 0) <|
  take c 0 0 1 <| take c 1 0 1 <|
  credits <| send c 0 1 <| send c 1 1 <|
  wtOut c 0 r 1 (buf 0 0) (buf_whole 0 0) <| stOut c 0 r 2 (buf 0 1) (buf_whole 0 1) <|
  wtOut c 1 r 1 (buf 1 0) (buf_whole 1 0) <| stOut c 1 r 2 (buf 1 1) (buf_whole 1 1) k

/-- The end of round 0: round 1's first products, and the last arrivals stored and freed. -/
def fin0 (c : Dev nD) (k : PG F) : PG F :=
  loadX c 0 0 1 0 <|
  wtOut c 0 0 2 (buf 0 1) (buf_whole 0 1) <| dots 0 0 0 <|
  wtOut c 1 0 2 (buf 1 1) (buf_whole 1 1) <| dots 0 1 0 <|
  waitXfer 0 1 <| stOut c 0 0 3 (work 0) (work_whole 0) <| wtOut c 0 0 3 (work 0) (work_whole 0) <| grant c 0 <|
  waitXfer 1 1 <| stOut c 1 0 3 (work 1) (work_whole 1) <| wtOut c 1 0 3 (work 1) (work_whole 1) <| grant c 1 k

/-- The end of round 1. -/
def fin1 (c : Dev nD) : PG F :=
  waitXfer 0 1 <| wtOut c 0 1 2 (buf 0 1) (buf_whole 0 1) <| stOut c 0 1 3 (work 0) (work_whole 0) <|
  waitXfer 1 1 <| wtOut c 1 1 2 (buf 1 1) (buf_whole 1 1) <| stOut c 1 1 3 (work 1) (work_whole 1) <|
  wtOut c 0 1 3 (work 0) (work_whole 0) <| wtOut c 1 1 3 (work 1) (work_whole 1) <| .ret ⟨⟩

/-- The body on device `c`. -/
def body (c : Dev nD) : PG F :=
  .op (.semSignal (pv 0 c, .tc) barS (1#32).toInt) fun _ =>
  .op (.semSignal (nx 0 c, .tc) barS (1#32).toInt) fun _ =>
  loadW 0 <| loadW 1 <| loadX c 0 0 0 0 <| dots 0 0 0 <| dots 0 1 0 <|
  .op (.semWait barS (2#32).toInt) fun _ =>
  half c 0 <| fin0 c <| credits <| half c 1 <| fin1 c

set_option maxRecDepth 100000 in
/-- The printed body is that sequence on the device it reads. -/
theorem body_eq (t : Fin cfg0.N) : (bodyAt0 t : PG F) = .op .deviceId fun c => body c := by chain_rfl

end Cert.KernelIdeal.Ring

end
-- ==== Proof.Sched.lean ====
/-
  The protocol of the two rings: which semaphores count what, who pays them and what each payment carries; what
  a core owes when, and why no wait can wait for itself; and what the blocks sent around hold.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref
public import Idealize.ShloMosaic.Lib.MemrefSat

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's own resources: rounds whose payments are told apart by direction. -/
abbrev UB : Type := Rounds.URounds (GSem nD τ sig) (Fin 2)
/-- With them, the library's for a pipeline and the counters of the local copies. -/
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev 𝒱₀ : Variants := Variants.none

variable (m : (ℓ : Loc nD τ sig) → Buf (Elt F) ℓ)

/-! ## The ring of devices -/

theorem nx_pv : ∀ d c, nx d (pv d c) = c := by decide +kernel
theorem pv_nx : ∀ d c, pv d (nx d c) = c := by decide +kernel

/-- Going on in direction `d`, as a permutation of the devices. -/
def ring (d : Fin 2) : Dev nD ≃ Dev nD := ⟨nx d, pv d, pv_nx d, nx_pv d⟩

/-! ## The cells -/

/-- A core's protocol cells: the barrier, and for each direction the departure of a block, the arrival of one, and the
    credit to send the next. -/
inductive Kd
  | bar
  | snd (d : Fin 2)
  | rcv (d : Fin 2)
  | crd (d : Fin 2)
  deriving DecidableEq

instance : Fintype Kd where
  elems := {.bar, .snd 0, .snd 1, .rcv 0, .rcv 1, .crd 0, .crd 1}
  complete := by
    rintro (_ | d | d | d)
    · decide
    all_goals revert d; decide

def csem : Kd → SemLoc sig
  | .bar => .reg barS
  | .snd d => .dma (sendS d)
  | .rcv d => .dma (recvS d)
  | .crd d => .reg (credS d)

/-- The cell of kind `k` on device `c`. -/
def cell (c : Dev nD) (k : Kd) : GSem nD τ sig := ((c : Thread nD τ), csem k)

def smKind : SemLoc sig → Option Kd
  | .reg s => if s = barS then some .bar else if s = credS 0 then some (.crd 0) else if s = credS 1 then some (.crd 1) else none
  | .dma s => if s = sendS 0 then some (.snd 0) else if s = sendS 1 then some (.snd 1)
      else if s = recvS 0 then some (.rcv 0) else if s = recvS 1 then some (.rcv 1) else none

theorem smKind_csem : ∀ k, smKind (csem k) = some k := by decide

/-- Which protocol cell a semaphore of the machine is. -/
def kindOf (g : GSem nD τ sig) : Option Kd := if g.1.2 = .tc then smKind g.2 else none

theorem kindOf_cell (c : Dev nD) (k : Kd) : kindOf (cell c k) = some k := (if_pos rfl).trans (smKind_csem k)

theorem csem_inj {k k' : Kd} (h : csem k = csem k') : k = k' :=
  Option.some.inj ((smKind_csem k).symm.trans ((congrArg smKind h).trans (smKind_csem k')))

theorem cell_injective : Function.Injective fun ck : Dev nD × Kd => cell ck.1 ck.2 := by
  rintro ⟨c, k⟩ ⟨c', k'⟩ h
  have h1 : c = c' := congrArg (fun g : GSem nD τ sig => g.1.1) h
  have h2 : k = k' := csem_inj (congrArg Prod.snd h)
  rw [h1, h2]

theorem cell_eq {c c' : Dev nD} {k k' : Kd} (h : cell c k = cell c' k') : c = c' ∧ k = k' :=
  Prod.mk.inj (cell_injective (a₁ := (c, k)) (a₂ := (c', k')) h)

/-- The credit of one block. -/
@[irreducible] def N : ℕ := (work 0).view.dmaCredit
theorem N_pos : 0 < N := by unfold N; exact View.dmaCredit_pos _ (by decide)
theorem N_work (d : Fin 2) : (work d).view.dmaCredit = N := by
  unfold N; match d with
  | 0 => rfl
  | 1 => rfl
theorem N_buf (d p : Fin 2) : (buf d p).view.dmaCredit = N := by
  unfold N; match d, p with
  | 0, 0 => rfl
  | 0, 1 => rfl
  | 1, 0 => rfl
  | 1, 1 => rfl

/-! ## What the blocks hold -/

/-- Device `c`'s columns of `x` and rows of `w`. -/
def hbmX (c : Dev nD) : Vec F S8192x2048 .f32 := (Memref.whole main_arg0).view.read (Elt F) (m ((c : Thread nD τ).loc main_arg0))
def hbmW (c : Dev nD) : Vec F S2048x4096 .f32 := (Memref.whole main_arg1).view.read (Elt F) (m ((c : Thread nD τ).loc main_arg1))

theorem xRect_inb (q : Fin 4) (r : Fin 2) :
    ∀ a, (![2048 * q.val + 1024 * r.val, 0] : Fin 2 → Nat) a + S1024x2048.size a ≤ S8192x2048.size a := by
  revert q r; decide
theorem wRect_inb (d : Fin 2) :
    ∀ a, (![0, 2048 * d.val] : Fin 2 → Nat) a + S2048x2048.size a ≤ S2048x4096.size a := by
  revert d; decide
theorem oRect_inb (q : Fin 4) (r d : Fin 2) :
    ∀ a, (![2048 * q.val + 1024 * r.val, 2048 * d.val] : Fin 2 → Nat) a + S1024x2048.size a ≤ S8192x4096.size a := by
  revert q r d; decide

/-- The rows of chunk `q` that round `r` works on, -/
abbrev xRect (q : Fin 4) (r : Fin 2) : Rect S8192x2048 := Rect.unit ![2048 * q.val + 1024 * r.val, 0] S1024x2048.size (xRect_inb q r)
/-- the columns of `w` that direction `d` works on, -/
abbrev wRect (d : Fin 2) : Rect S2048x4096 := Rect.unit ![0, 2048 * d.val] S2048x2048.size (wRect_inb d)
/-- and the part of the result that both determine. -/
abbrev oRect (q : Fin 4) (r d : Fin 2) : Rect S8192x4096 := Rect.unit ![2048 * q.val + 1024 * r.val, 2048 * d.val] S1024x2048.size (oRect_inb q r d)

/-- A block of rows of `x`, narrowed; -/
def xv (X : Vec F S8192x2048 .f32) (q : Fin 4) (r : Fin 2) : FVec F S1024x2048 .bf16 :=
  truncf .bf16 (fun i => X ((xRect q r).emb i) : FVec F S1024x2048 .f32) bitsLt_bf16_f32
/-- a half of `w`, narrowed. -/
def wv (W : Vec F S2048x4096 .f32) (d : Fin 2) : FVec F S2048x2048 .bf16 :=
  truncf .bf16 (fun i => W ((wRect d).emb i) : FVec F S2048x2048 .f32) bitsLt_bf16_f32

/-- Device `c`'s own product for the rows of chunk `q`. -/
def prod (d r : Fin 2) (q : Fin 4) (c : Dev nD) : FVec F S1024x2048 .bf16 := pDot (xv (hbmX m c) q r) (wv (hbmW m c) d)

/-- What device `c` holds after `s` steps of reducing. -/
def acc (d r : Fin 2) : ℕ → Dev nD → FVec F S1024x2048 .bf16
  | 0, c => prod m d r (chunkOf c d 0) c
  | s + 1, c => pAdd (prod m d r (chunkOf c d (Fin.ofNat 4 (s + 1))) c) (acc d r s (pv d c))

/-- What it holds after `s` steps of gathering. -/
def gath (d r : Fin 2) : ℕ → Dev nD → FVec F S1024x2048 .bf16
  | 0, c => pAct (acc m d r 3 c)
  | s + 1, c => gath d r s (pv d c)

/-- The block device `c` sends as its `n`-th in direction `d`: three of reducing, three of gathering, then the second
    round's. -/
def Msg (d : Fin 2) (n : ℕ) (c : Dev nD) : FVec F S1024x2048 .bf16 :=
  if n % 6 < 3 then acc m d (Fin.ofNat 2 (n / 6)) (n % 6) c else gath m d (Fin.ofNat 2 (n / 6)) (n % 6 - 3) c

/-- Which accumulator it goes from. -/
def par (n : ℕ) : Fin 2 := Fin.ofNat 2 n

/-! ## The schedule -/

/-- Direction `d`'s arrival block on device `c`, whatever it holds. -/
def slot (d : Fin 2) (c : Dev nD) : sProp 𝕄 :=
  iprop(∃ X : FVec F S1024x2048 .bf16, owns (c : Thread nD τ) (work d) fullShare X)

/-- Leave to make send `n` in direction `d`: the next device's arrival block, and that it waits for the `n`-th block. -/
def perm (d : Fin 2) (c : Dev nD) (n : ℕ) : sProp 𝕄 :=
  iprop(slot d (nx d c) ∗ reached ER (cell (nx d c) (.rcv d)) n)

/-- How many rounds a cell has; -/
def rounds : Kd → ℕ
  | .bar => 1
  | .snd _ => 12
  | .rcv _ => 12
  | .crd _ => 11

/-- who pays in a round: both directions the barrier, one payer any other; -/
def duty : Kd → Finset (Fin 2)
  | .bar => Finset.univ
  | .snd _ => {0}
  | .rcv _ => {0}
  | .crd _ => {0}

/-- how much; -/
def pays : Kd → ℕ
  | .bar => 1
  | .snd _ => N
  | .rcv _ => N
  | .crd _ => 1

theorem pays_pos (k : Kd) : 0 < pays k := by
  cases k <;> unfold pays
  · exact Nat.one_pos
  · exact N_pos
  · exact N_pos
  · exact Nat.one_pos

/-- and what comes with it: with the barrier and a credit the leave to send, with an arrival the block and that its
    sender has the credits it sent on, with a departure the sender's share of what it sent. -/
def load (c : Dev nD) : Kd → ℕ → Fin 2 → sProp 𝕄
  | .bar, _, d => perm d c 0
  | .crd d, n, _ => perm d c (n + 1)
  | .rcv d, n, _ => iprop(owns (c : Thread nD τ) (work d) fullShare (Msg m d n (pv d c)) ∗ reached ER (cell (pv d c) (.crd d)) n)
  | .snd d, n, _ => owns (c : Thread nD τ) (buf d (par n)) fullShare.left (Msg m d n c)

instance slot_storable (d : Fin 2) (c : Dev nD) : BI.Storable (upEmb : UEmb _ 𝕄) (slot (F := F) d c) := by
  unfold slot; infer_instance
instance perm_storable (d : Fin 2) (c : Dev nD) (n : ℕ) : BI.Storable (upEmb : UEmb _ 𝕄) (perm (F := F) d c n) := by
  unfold perm; infer_instance
instance load_storable (c : Dev nD) (k : Kd) (n : ℕ) (d : Fin 2) : BI.Storable (upEmb : UEmb _ 𝕄) (load m c k n d) := by
  cases k <;> unfold load <;> infer_instance

def Rd : Rounds.Schedule (GSem nD τ sig) (Fin 2) 𝕄 where
  duties g r := match kindOf g with
    | some k => if r < rounds k then duty k else ∅
    | none => ∅
  unitless _ := False
  amount g _ _ := match kindOf g with
    | some k => pays k
    | none => 1
  payload g r d := match kindOf g with
    | some k => load m g.1.1 k r d
    | none => iprop(emp)
  amount_pos g _ _ _ := by
    rcases kindOf g with _ | k
    · exact Nat.one_pos
    · exact pays_pos k

instance Rd_storable (g : GSem nD τ sig) (r : ℕ) (d : Fin 2) : BI.Storable (upEmb : UEmb _ 𝕄) ((Rd m).payload g r d) := by
  show BI.Storable upEmb (match kindOf g with
    | some k => load m g.1.1 k r d
    | none => iprop(emp))
  rcases kindOf g with _ | k <;> infer_instance

section Sched
variable (c : Dev nD) (k : Kd) (r : ℕ) (d : Fin 2)

theorem duties_eq : (Rd m).duties (cell c k) r = if r < rounds k then duty k else ∅ := by
  dsimp only [Rd]; rw [kindOf_cell]
theorem amount_eq : (Rd m).amount (cell c k) r d = pays k := by
  dsimp only [Rd]; rw [kindOf_cell]
theorem payload_eq : (Rd m).payload (cell c k) r d = load m c k r d := by
  dsimp only [Rd]; rw [kindOf_cell]; rfl

variable {k r d}
theorem duties_mem (hr : r < rounds k) (hd : d ∈ duty k) : d ∈ (Rd m).duties (cell c k) r := by
  rw [duties_eq, if_pos hr]; exact hd
variable (k) in
theorem duties_later : ∀ r, rounds k ≤ r → (Rd m).duties (cell c k) r = ∅ := fun r hr => by
  rw [duties_eq, if_neg (Nat.not_lt.mpr hr)]
theorem expect_eq (hr : r < rounds k) : (Rd m).expect (cell c k) r = (duty k).card * pays k := by
  unfold Schedule.expect Schedule.amountOf
  rw [duties_eq, if_pos hr, Finset.sum_congr rfl fun d _ => amount_eq m c k r d, Finset.sum_const, smul_eq_mul]
theorem rest_eq (hr : r < rounds k) : bigSep ((Rd m).duties (cell c k) r \ ∅) (fun d => (Rd m).payload (cell c k) r d)
    = bigSep (duty k) (fun d => load m c k r d) := by
  rw [Finset.sdiff_empty, duties_eq, if_pos hr]; exact BI.bigSep_congr fun d _ => payload_eq m c k r d

end Sched

/-! ## Owing and waiting -/

/-- A range of rounds is its first and the rest. -/
theorem Ico_bot {a b : ℕ} (h : a < b) : Finset.Ico a b = insert a (Finset.Ico (a + 1) b) := by
  ext i; rw [Finset.mem_insert, Finset.mem_Ico, Finset.mem_Ico]; omega
theorem not_mem_Ico (a b : ℕ) : a ∉ Finset.Ico (a + 1) b := fun h => by
  have := (Finset.mem_Ico.mp h).1; omega

/-- What a device that has made `a` sends and given `g` credits in direction `d` still owes there. -/
def owe (d : Fin 2) (c : Dev nD) (a g : ℕ) : CellTallies nD τ sig ℕ :=
  (∑ n ∈ Finset.Ico a 12, tallyAt (cell (nx d c) (.rcv d)) n N) + ∑ n ∈ Finset.Ico g 11, tallyAt (cell (pv d c) (.crd d)) n 1

theorem owe_send (d : Fin 2) (c : Dev nD) {a g : ℕ} (h : a < 12) :
    owe d c a g = owe d c (a + 1) g + tallyAt (cell (nx d c) (.rcv d)) a N := by
  unfold owe
  rw [Ico_bot h, Finset.sum_insert (not_mem_Ico a 12), add_comm (tallyAt _ _ _), add_right_comm]

theorem owe_grant (d : Fin 2) (c : Dev nD) {a g : ℕ} (h : g < 11) :
    owe d c a g = owe d c a (g + 1) + tallyAt (cell (pv d c) (.crd d)) g 1 := by
  unfold owe
  rw [Ico_bot h, Finset.sum_insert (not_mem_Ico g 11), add_comm (tallyAt _ _ _), add_assoc]

theorem owe_end (d : Fin 2) (c : Dev nD) : owe d c 12 11 = 0 := by
  unfold owe; rw [Finset.Ico_self, Finset.sum_empty, Finset.Ico_self, Finset.sum_empty, add_zero]

/-- The indices a cell's payments are counted under: the rounds. -/
def L (g : GSem nD τ sig) : Finset ℕ := if g.1.2 = .tc then Finset.range 12 else ∅

/-- The levels by kind of cell: the barrier below everything sent; the blocks and credits in the order of the run. -/
def lvK : Option Kd → ℕ → ℕ
  | some .bar, _ => 1
  | some (.rcv _), n => 2 * n + 2
  | some (.crd _), n => 2 * n + 3
  | some (.snd _), _ => 0
  | none, _ => 0

def lv (g : GSem nD τ sig) (n : ℕ) : ℕ := lvK (kindOf g) n

theorem L_of_ne (g : GSem nD τ sig) (h : g.1.2 ≠ .tc) : L g = ∅ := if_neg h
theorem L_tc (c : Dev nD) (sm : SemLoc sig) : L ((c : Thread nD τ), sm) = Finset.range 12 := if_pos rfl

/-- Everything in `O` is owed above level `cut`. -/
def Above (cut : ℕ) (O : CellTallies nD τ sig ℕ) : Prop := ∀ g u, 0 < O g u → u ∈ L g ∧ cut < lv g u

theorem Above.zero (cut : ℕ) : Above cut 0 := fun g u h => absurd h (lt_irrefl 0)

theorem Above.add {cut : ℕ} {O O' : CellTallies nD τ sig ℕ} (h : Above cut O) (h' : Above cut O') : Above cut (O + O') := fun g u hg => by
  rw [Pi.add_apply, Finsupp.add_apply] at hg
  rcases Nat.eq_zero_or_pos (O g u) with h0 | h0
  · exact h' g u (by omega)
  · exact h g u h0

theorem Above.sum {cut : ℕ} {S : Finset ℕ} {O : ℕ → CellTallies nD τ sig ℕ} (h : ∀ n ∈ S, Above cut (O n)) : Above cut (∑ n ∈ S, O n) := by
  induction S using Finset.induction_on with
  | empty => rw [Finset.sum_empty]; exact Above.zero cut
  | insert n S hn ih =>
    rw [Finset.sum_insert hn]
    exact (h n (Finset.mem_insert_self n S)).add (ih fun i hi => h i (Finset.mem_insert_of_mem hi))

theorem Above.tally {cut : ℕ} (c : Dev nD) (k : Kd) {n : ℕ} (v : ℕ) (hn : n < 12) (h : cut < lvK (some k) n) :
    Above cut (tallyAt (cell c k) n v) := fun g u hg => by
  rw [tallyAt_apply] at hg
  by_cases hc : g = cell c k ∧ u = n
  · rw [hc.1, hc.2]
    refine ⟨by rw [cell, L_tc]; exact Finset.mem_range.mpr hn, ?_⟩
    unfold lv; rw [kindOf_cell]; exact h
  · rw [if_neg hc] at hg; exact absurd hg (lt_irrefl 0)

theorem Above.owe {cut : ℕ} (d : Fin 2) (c : Dev nD) {a g : ℕ} (ha : cut < 2 * a + 2) (hg : cut < 2 * g + 3) : Above cut (owe d c a g) :=
  (Above.sum fun n hn => .tally _ _ _ (Finset.mem_Ico.mp hn).2 (by have := (Finset.mem_Ico.mp hn).1; dsimp only [lvK]; omega)).add
    (Above.sum fun n hn => .tally _ _ _ (by have := (Finset.mem_Ico.mp hn).2; omega)
      (by have := (Finset.mem_Ico.mp hn).1; dsimp only [lvK]; omega))

/-- A core may wait at a level while it owes only above it. -/
theorem mayWait (c : Dev nD) (sm : SemLoc sig) {n : ℕ} (hn : n < 12) {O : CellTallies nD τ sig ℕ}
    (hO : Above (lv ((c : Thread nD τ), sm) n) O) : (levAts L lv : sProp 𝕄) ⊢ MayWait (c : Thread nD τ) sm n O :=
  MayOwe.of_cut (L := L) (lev := lv) (lv ((c : Thread nD τ), sm) n)
    (fun p hp => by rw [Finset.mem_singleton.mp hp, L_tc]; exact Finset.mem_range.mpr hn)
    (fun g u hg => (hO g u hg).1)
    (fun p hp => by rw [Finset.mem_singleton.mp hp])
    (fun g u hg => (hO g u hg).2)

/-! ## What a core carries -/

/-- What the run may read at any time: the levels, and the invariant of every protocol cell. -/
def ctx : sProp 𝕄 :=
  iprop(levAts L lv ∗ bigSep Finset.univ fun ck : Dev nD × Kd => iprop(∃ κ : ℕ, cellInv ER (Rd m) κ (cell ck.1 ck.2)))

instance ctx_persistent : BI.Persistent (ctx m) := by unfold ctx; infer_instance

theorem ctx_inv (c : Dev nD) (k : Kd) : ctx m ⊢ iprop(∃ κ : ℕ, cellInv ER (Rd m) κ (cell c k)) := by
  have h : (bigSep Finset.univ fun ck : Dev nD × Kd => iprop(∃ κ : ℕ, cellInv ER (Rd m) κ (cell ck.1 ck.2)))
      ⊢ iprop(∃ κ : ℕ, cellInv ER (Rd m) κ (cell c k)) := BI.bigSep_elim (Finset.mem_univ (c, k))
  unfold ctx; iintro ⟨-, H⟩
  iapply h; iexact H

/-- Owing `O`, whatever has been waited for. -/
def owing (c : Dev nD) (O : CellTallies nD τ sig ℕ) : sProp 𝕄 := iprop(∃ W, owes (c : Thread nD τ) O W)

/-- The right to make the sends from the `n`-th on. -/
def outT (d : Fin 2) (c : Dev nD) (n : ℕ) : sProp 𝕄 :=
  bigSep (Finset.Ico n 12) fun i => iprop(dutyTok ER (cell c (.snd d)) i 0 ∗ dutyTok ER (cell (nx d c) (.rcv d)) i 0)

/-- Having waited for `n` departures and arrivals, the right to wait for the rest. -/
def inT (d : Fin 2) (c : Dev nD) (n : ℕ) : sProp 𝕄 :=
  iprop(atPos ER (cell c (.snd d)) n ∅ 0 ∗ atPos ER (cell c (.rcv d)) n ∅ 0
    ∗ bigSep (Finset.Ico n 12) fun i => cred (tallyAt (cell c (.rcv d)) i N))

/-- Having waited for `n` credits, the right to wait for the rest. -/
def crT (d : Fin 2) (c : Dev nD) (n : ℕ) : sProp 𝕄 :=
  iprop(atPos ER (cell c (.crd d)) n ∅ 0 ∗ bigSep (Finset.Ico n 11) fun i => cred (tallyAt (cell c (.crd d)) i 1))

/-- The right to give the credits from the `n`-th on. -/
def grT (d : Fin 2) (c : Dev nD) (n : ℕ) : sProp 𝕄 :=
  bigSep (Finset.Ico n 11) fun i => dutyTok ER (cell (pv d c) (.crd d)) i 0

/-- A range of resources is its first and the rest. -/
theorem bigSep_Ico_bot {a b : ℕ} (h : a < b) (Φ : ℕ → sProp 𝕄) :
    bigSep (Finset.Ico a b) Φ = iprop(Φ a ∗ bigSep (Finset.Ico (a + 1) b) Φ) := by
  rw [Ico_bot h, BI.bigSep_insert (not_mem_Ico a b)]; rfl

end Cert.KernelIdeal.Ring

end
-- ==== Proof.Ops.lean ====
/-
  What each operation of the run needs and leaves: reading and overwriting a block, filling a staging block strip by
  strip, multiplying, sending, waiting for departures, arrivals and credits, granting, storing into the result.
-/
module

public import proofs.«01_k».proof.Proof.Sched
public import Idealize.ShloMosaic.Lib.VecWindow
public import Idealize.ShloMosaic.Lib.WritesUnit
public import Idealize.ShloMosaic.Lib.Pipeline.Value

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- Program `p` runs on device `c` to `Q`. -/
abbrev WP (c : Dev nD) (p : PG F) (Q : PUnit.{1} → sProp 𝕄) : sProp 𝕄 :=
  wp frame (wpE (defs₀ (F := F)) 𝒱₀ (c : Thread nD τ) none) Set.univ p Q

variable (c : Dev nD) {Q : PUnit.{1} → sProp (MT nD τ sig ℕ (Elt F) ℕ UU ℕ)}

/-- Memref `M` held on device `c` at contents `X`. -/
abbrev own {sp : Space} {s : Shape} {e : EltTy} (c : Dev nD) (M : Memref sig .tc sp s e) (q : PosShare TreeShare) (X : Vec F s e) : sProp 𝕄 :=
  owns (c : Thread nD τ) M q X

theorem own_eq {sp : Space} {s : Shape} {e : EltTy} (M : Memref sig .tc sp s e) (q : PosShare TreeShare) (X : Vec F s e) :
    own c M q X = iprop(∃ f : Buf (Elt F) (M.view.loc (c : Thread nD τ)), ⌜M.view.read (Elt F) f = X⌝
      ∗ (M.view.loc (c : Thread nD τ) ↦[M.view.set]{q} f)) := rfl

theorem own_elim {sp : Space} {s : Shape} {e : EltTy} (M : Memref sig .tc sp s e) (q : PosShare TreeShare) (X : Vec F s e) :
    own c M q X ⊢ iprop(∃ f : Buf (Elt F) (M.view.loc (c : Thread nD τ)), ⌜M.view.read (Elt F) f = X⌝
      ∗ (M.view.loc (c : Thread nD τ) ↦[M.view.set]{q} f)) := .rfl

theorem own_of {sp : Space} {s : Shape} {e : EltTy} (M : Memref sig .tc sp s e) (q : PosShare TreeShare) {X : Vec F s e}
    {f : Buf (Elt F) (M.view.loc (c : Thread nD τ))} (h : M.view.read (Elt F) f = X) :
    (M.view.loc (c : Thread nD τ) ↦[M.view.set]{q} f) ⊢ own c M q X := by
  rw [own_eq]; iintro H; iexists f; isplitr
  · ipureintro; exact h
  · iexact H

/-! ## Reading and overwriting -/

section Mem
variable {s : Shape} {e : EltTy} (M : Memref sig .tc .vmem s e) {off : Fin s.rank → ℕ}
  (inb : ∀ a, off a + s.size a ≤ s.size a)

/-- A read of all of a memref. -/
theorem wp_loadAll {q : PosShare TreeShare} (X : Vec F s e) {hl : M.view.LoadsAt (Rect.unit off s.size inb).toLoadRect}
    {k : Vec F s e → PG F} :
    own c M q X ⊢ iprop((own c M q X -∗ WP c (k X) Q)
      -∗ WP c (.op (.load M (Rect.unit off s.size inb).toLoadRect hl) k) Q) := by
  rw [own_eq]
  iintro ⟨%f, %hf, H⟩ Hk
  iapply (wp_load 𝒱₀ (c : Thread nD τ) none Set.univ (m := M) (View.setOn_subset_set _ _)) $$ H
  iintro H
  rw [show M.view.readAt (Elt F) (Rect.unit off s.size inb).toLoadRect f = X from (View.readAt_full M.view f inb).trans hf]
  iapply Hk
  iexists f; isplitr
  · ipureintro; exact hf
  · iexact H

/-- A read of part of a memref, of no consequence. -/
theorem wp_loadSome (r : Rect s) {q : PosShare TreeShare} (X : Vec F s e) {hl : M.view.LoadsAt r.toLoadRect}
    {k : (r.shape.Idx → Elt F e) → PG F} :
    own c M q X ⊢ iprop((∀ v, own c M q X -∗ WP c (k v) Q) -∗ WP c (.op (.load M r.toLoadRect hl) k) Q) := by
  rw [own_eq]
  iintro ⟨%f, %hf, H⟩ Hk
  iapply (wp_load 𝒱₀ (c : Thread nD τ) none Set.univ (m := M) (View.setOn_subset_set _ _)) $$ H
  iintro H
  iapply Hk
  iexists f; isplitr
  · ipureintro; exact hf
  · iexact H

/-- An overwrite of part of a memref: it then reads the stored vector there and what it did elsewhere. -/
theorem wp_storeRect (r : Rect s) (X : Vec F s e) {w : r.shape.Idx → Elt F e} {hx : (M.access r).Stores Finset.univ} {hm} {k : PUnit → PG F} :
    own c M fullShare X ⊢ iprop((∀ f : Buf (Elt F) (M.view.loc (c : Thread nD τ)), ⌜M.view.read (Elt F) f = X⌝
          -∗ own c M fullShare (M.view.read (Elt F) (M.view.writes (Elt F) f [⟨r, w⟩])) -∗ WP c (k ⟨⟩) Q)
      -∗ WP c (.op (.store M r w Finset.univ hx hm) k) Q) := by
  rw [own_eq]
  iintro ⟨%f, %hf, H⟩ Hk
  iapply (wp_store 𝒱₀ (c : Thread nD τ) none Set.univ (m := M) (r := r) (Mk := Finset.univ) (S := M.view.set)
    (M.view.set_slice_subset r)) $$ H
  iintro H
  iapply Hk $$ %f []
  · ipureintro; exact hf
  · rw [own_eq]
    iexists _; isplitr
    · ipureintro; rfl
    · iexact H

end Mem

theorem wp_ld (M : Blk) {q : PosShare TreeShare} (X : Vec F S1024x2048 .bf16) {k : Vec F S1024x2048 .bf16 → PG F} :
    own c M q X ⊢ iprop((own c M q X -∗ WP c (k X) Q) -∗ WP c (ld M k) Q) :=
  wp_loadAll c M _ X

theorem wp_st (M : Blk) (h : M.IsWhole) (v : FVec F S1024x2048 .bf16) {k : PG F} :
    iprop(∃ X, own c M fullShare X) ⊢ iprop((own c M fullShare v -∗ WP c k Q) -∗ WP c (st M h v k) Q) := by
  iintro ⟨%X, H⟩ Hk
  unfold st
  iapply (wp_loadAll c M _ X) $$ H
  iintro H
  iapply (wp_storeRect c M rAll X) $$ H
  iintro %f - H
  rw [show M.view.read (Elt F) (M.view.writes (Elt F) f [⟨rAll, v⟩]) = v from View.read_writes_full M.view f _ v []]
  iapply Hk; iexact H

/-! ## Copies from HBM, strip by strip -/

theorem pStrip_apply (v : Vec F S256x2048 .f32) (i : S256x2048.Idx) : pStrip v i = truncf .bf16 v bitsLt_bf16_f32 i :=
  congrFun (shapeCast_self _ _) i

theorem pCpy_eq (a : Vec F S1024x2048 .bf16) : pCpy a = a := shapeCast_self _ _

/-- The levels, at hand. -/
theorem ctx_lev : ctx m ⊢ (levAts L lv : sProp 𝕄) := by
  unfold ctx; iintro ⟨H, -⟩; iexact H

theorem lv_dma (s : DmaSem sig) (h : smKind (.dma s) = none) (n : ℕ) : lv ((c : Thread nD τ), .dma s) n = 0 := by
  unfold lv kindOf; rw [if_pos rfl, h]; rfl

section Strip
variable {R : ℕ}

/-- The staging strip and its semaphore, between strips. -/
def strips (c : Dev nD) : sProp 𝕄 :=
  iprop((∃ Z : Vec F S256x2048 .f32, own c stg fullShare Z) ∗ semVal ((c : Thread nD τ), .dma loadS) 0)

theorem wp_strip (src : Memref sig .tc .hbm S256x2048 .f32) (dst : Memref sig .tc .vmem ⟨2, ![R, 2048]⟩ .bf16) (o : ℕ)
    (hin : ∀ a, (![o, 0] : Fin 2 → Nat) a + S256x2048.size a ≤ (⟨2, ![R, 2048]⟩ : Shape).size a)
    (hst : (dst.access (Rect.unit (s := ⟨2, ![R, 2048]⟩) ![o, 0] S256x2048.size hin)).Stores Finset.univ)
    {q : PosShare TreeShare} (Y : Vec F S256x2048 .f32) (G : Vec F ⟨2, ![R, 2048]⟩ .bf16) {O : CellTallies nD τ sig ℕ} (hO : Above 0 O)
    {k : PG F} :
    iprop(ctx m ∗ own c src q Y ∗ strips c ∗ own c dst fullShare G ∗ owing c O)
      ⊢ iprop((∀ G' : Vec F ⟨2, ![R, 2048]⟩ .bf16,
            ⌜(∀ (x : S256x2048.Idx) (y : (⟨2, ![R, 2048]⟩ : Shape).Idx), (y (0 : Fin 2)).val = o + (x (0 : Fin 2)).val →
                (y (1 : Fin 2)).val = (x (1 : Fin 2)).val → G' y = pStrip Y x)
              ∧ ∀ y : (⟨2, ![R, 2048]⟩ : Shape).Idx, (y (0 : Fin 2)).val < o → G' y = G y⌝
            -∗ own c src q Y ∗ strips c ∗ own c dst fullShare G' ∗ owing c O -∗ WP c k Q)
        -∗ WP c (strip src dst o hin hst k) Q) := by
  unfold strip strips owing
  iintro ⟨#Hctx, Hs, ⟨⟨%Z, Hz⟩, Hv⟩, Hd, ⟨%W, HO⟩⟩ Hk
  ihave Hs' := (own_elim c src q Y) $$ Hs
  icases Hs' with ⟨%fs, %hfs, Hs⟩
  ihave Hz' := (own_elim c stg fullShare Z) $$ Hz
  icases Hz' with ⟨%fz, %hfz, Hz⟩
  iapply (Transfers.wp_dmaLocal countersEmb 𝒱₀ (c : Thread nD τ) none 0 (stg : Memref sig .tc .vmem S256x2048 .f32).view.dmaCredit rfl
    (View.dmaCredit_pos _ (by decide)) subset_rfl (src := src) (dst := stg) (sm := .dma loadS) (via := .same)) $$ [Hs Hz Hv]
  · isplitl [Hs]; · iexact Hs
    isplitl [Hz]; · iexact Hz
    iexact Hv
  iintro Hfl
  iapply (Transfers.wp_waitLocalO countersEmb 𝒱₀ (c : Thread nD τ) none 0 rfl) $$ [Hfl HO]
  · isplitl [Hfl]; · iexact Hfl
    isplitl [HO]; · iexact HO
    iapply (mayWait c (.dma loadS) (by decide : 0 < 12) (O := O) (by rw [lv_dma c loadS (by decide)]; exact hO))
    iapply (ctx_lev m); iexact Hctx
  iintro ⟨⟨Hz, Hs⟩, Hv, HO⟩
  iapply (wp_loadAll c stg _ Y) $$ [Hz]
  · iapply (own_of c stg fullShare ((View.read_write_univ _ _).trans hfs)); iexact Hz
  iintro Hz
  iapply (wp_loadSome c dst _ G) $$ Hd
  iintro %_ Hd
  iapply (wp_storeRect c dst _ G) $$ Hd
  iintro %f %hf Hd
  iapply Hk $$ %_ []
  rotate_left
  · isplitl [Hs]; · iapply (own_of c src q hfs); iexact Hs
    isplitl [Hz Hv]
    · isplitl [Hz]; · iexists Y; iexact Hz
      iexact Hv
    isplitl [Hd]; · iexact Hd
    iexists _; iexact HO
  · ipureintro
    refine ⟨fun x y h0 h1 => View.read_writes_cons_rows_of_mem dst.view f hin _ [] y x rfl h0 h1, fun y h => ?_⟩
    rw [View.read_writes_cons_rows_of_not_mem dst.view f hin _ [] y rfl rfl (Or.inl h), View.writes_nil, hf]

end Strip

/-- Stages in turn, each from what the one before left. -/
theorem wp_stages (I : ℕ → sProp 𝕄) : ∀ (n : ℕ) (f : Fin n → PG F → PG F) (j : ℕ) (k : PG F),
    (∀ (i : Fin n) (k : PG F), iprop(I (j + i.val) ∗ (I (j + i.val + 1) -∗ WP c k Q)) ⊢ WP c (f i k) Q) →
    (iprop(I j ∗ (I (j + n) -∗ WP c k Q)) ⊢ WP c (stages n f k) Q)
  | 0, f, j, k, h => by
    unfold stages; iintro ⟨H, Hk⟩; iapply Hk; iexact H
  | n + 1, f, j, k, h => by
    unfold stages
    have h0 (k' : PG F) : iprop(I j ∗ (I (j + 1) -∗ WP c k' Q)) ⊢ WP c (f 0 k') Q := h 0 k'
    refine BIBase.Entails.trans ?_ (h0 _)
    have ih := wp_stages I n (fun i => f i.succ) (j + 1) k (fun i k' => by
      have := h i.succ k'
      rw [show j + i.succ.val = j + 1 + i.val by rw [Fin.val_succ]; omega] at this
      exact this)
    rw [show j + 1 + n = j + (n + 1) by omega] at ih
    iintro ⟨H, Hk⟩
    isplitl [H]; · iexact H
    iintro H
    iapply ih
    isplitl [H]; · iexact H
    iexact Hk

/-- A block filled strip by strip from `A`, strip `i` holding what rows `256 i` and on of `T` come from. -/
theorem wp_fill {R n : ℕ} (hR : R = 256 * n) (src : Fin n → Memref sig .tc .hbm S256x2048 .f32)
    (dst : Memref sig .tc .vmem ⟨2, ![R, 2048]⟩ .bf16)
    (hin : ∀ i : Fin n, ∀ a, (![256 * i.val, 0] : Fin 2 → Nat) a + S256x2048.size a ≤ (⟨2, ![R, 2048]⟩ : Shape).size a)
    (hst : ∀ i : Fin n, (dst.access (Rect.unit (s := ⟨2, ![R, 2048]⟩) ![256 * i.val, 0] S256x2048.size (hin i))).Stores Finset.univ)
    (A : sProp 𝕄) {q : PosShare TreeShare} (Y : Fin n → Vec F S256x2048 .f32)
    (hA : ∀ i, A ⊢ iprop(own c (src i) q (Y i) ∗ (own c (src i) q (Y i) -∗ A)))
    (T : Vec F ⟨2, ![R, 2048]⟩ .bf16)
    (hT : ∀ (i : Fin n) (x : S256x2048.Idx) (y : (⟨2, ![R, 2048]⟩ : Shape).Idx), (y (0 : Fin 2)).val = 256 * i.val + (x (0 : Fin 2)).val →
      (y (1 : Fin 2)).val = (x (1 : Fin 2)).val → pStrip (Y i) x = T y)
    {O : CellTallies nD τ sig ℕ} (hO : Above 0 O) {k : PG F} :
    iprop(ctx m ∗ A ∗ strips c ∗ (∃ G, own c dst fullShare G) ∗ owing c O)
      ⊢ iprop((A ∗ strips c ∗ own c dst fullShare T ∗ owing c O -∗ WP c k Q)
        -∗ WP c (stages n (fun i => strip (src i) dst (256 * i.val) (hin i) (hst i)) k) Q) := by
  have h := wp_stages c (Q := Q) (fun j => iprop(ctx m ∗ A ∗ strips c
      ∗ (∃ G : Vec F ⟨2, ![R, 2048]⟩ .bf16, ⌜∀ y : (⟨2, ![R, 2048]⟩ : Shape).Idx, (y (0 : Fin 2)).val < 256 * j → G y = T y⌝
          ∗ own c dst fullShare G) ∗ owing c O)) n
    (fun i => strip (src i) dst (256 * i.val) (hin i) (hst i)) 0 k ?_
  · iintro ⟨#Hctx, HA, Hs, ⟨%G, Hd⟩, HO⟩ Hk
    iapply h
    isplitl [HA Hs Hd HO]
    · isplitr; · iexact Hctx
      isplitl [HA]; · iexact HA
      isplitl [Hs]; · iexact Hs
      isplitl [Hd]
      · iexists G; isplitr
        · ipureintro; exact fun y hy => absurd hy (by omega)
        · iexact Hd
      iexact HO
    iintro ⟨-, HA, Hs, ⟨%G', %hG, Hd⟩, HO⟩
    have hG' : G' = T := funext fun y => hG y (by have := (y (0 : Fin 2)).isLt; rw [Nat.zero_add]; exact hR ▸ this)
    subst hG'
    iapply Hk
    iframe
  · intro i k
    dsimp only
    rw [Nat.zero_add]
    iintro ⟨⟨#Hctx, HA, Hs, ⟨%G, %hG, Hd⟩, HO⟩, Hk⟩
    ihave HA' := (hA i) $$ HA
    icases HA' with ⟨Hsrc, Hback⟩
    iapply (wp_strip m c (src i) dst (256 * i.val) (hin i) (hst i) (Y i) G hO) $$ [Hs Hd HO Hsrc]
    · isplitr; · iexact Hctx
      isplitl [Hsrc]; · iexact Hsrc
      isplitl [Hs]; · iexact Hs
      isplitl [Hd]; · iexact Hd
      iexact HO
    iintro %G' %hG' ⟨Hsrc, Hs, Hd, HO⟩
    ihave HA := Hback $$ Hsrc
    iapply Hk
    isplitr; · iexact Hctx
    isplitl [HA]; · iexact HA
    isplitl [Hs]; · iexact Hs
    isplitl [Hd]
    · iexists G'; isplitr
      · ipureintro
        intro y hy
        by_cases hlt : (y (0 : Fin 2)).val < 256 * i.val
        · rw [hG'.2 y hlt]; exact hG y hlt
        · have hx : ∀ a : Fin 2, (y a).val - (![256 * i.val, 0] : Fin 2 → ℕ) a < S256x2048.size a
            | 0 => by show (y (0 : Fin 2)).val - 256 * i.val < 256; omega
            | 1 => by show (y (1 : Fin 2)).val - 0 < 2048; exact (y (1 : Fin 2)).isLt
          have h0 : (y (0 : Fin 2)).val = 256 * i.val + ((⟨_, hx 0⟩ : Fin _)).val := by
            show (y (0 : Fin 2)).val = 256 * i.val + ((y (0 : Fin 2)).val - 256 * i.val); omega
          rw [hG'.1 (fun a => ⟨_, hx a⟩) y h0 rfl]
          exact hT i (fun a => ⟨_, hx a⟩) y h0 rfl
      · iexact Hd
    iexact HO

/-- Part of a memref lent out and given back. -/
theorem own_lend {sp : Space} {s : Shape} {e : EltTy} (M : Memref sig .tc sp s e) (q : PosShare TreeShare) (X : Vec F s e)
    (r : Rect s) (hr : ∀ a, r.stride a = 1) :
    own c M q X ⊢ iprop(own c (M.slice r hr) q (fun i => X (r.emb i)) ∗ (own c (M.slice r hr) q (fun i => X (r.emb i)) -∗ own c M q X)) := by
  iintro H
  ihave H' := (owns_slice_split (c : Thread nD τ) M q r hr X) $$ H
  icases H' with ⟨Hs, %f, %hf, Hr⟩
  isplitl [Hs]; · iexact Hs
  iintro Hs
  have hX : r.overlay (M.view.read (Elt F) f) (fun i => X (r.emb i)) = X := by
    rw [hf]; funext y
    by_cases hy : y ∈ r.set
    · obtain ⟨i, rfl⟩ := r.exists_idx_of_mem hy
      exact Rect.overlay_emb r X (fun i => X (r.emb i)) i
    · rw [Rect.overlay_of_not_mem _ _ _ hy]
  have h : iprop(own c (M.slice r hr) q (fun i => X (r.emb i))
      ∗ M.view.loc (c : Thread nD τ) ↦[M.view.set \ (M.slice r hr).view.set]{q} f) ⊢ own c M q X :=
    (owns_slice_join (c : Thread nD τ) M q r hr (fun i => X (r.emb i)) f).trans (by rw [hX])
  iapply h
  isplitl [Hs]; · iexact Hs
  iexact Hr

/-- Device `c`'s arguments, held through a run. -/
def args (c : Dev nD) : sProp 𝕄 :=
  iprop(own c (Memref.whole main_arg0) fullShare (hbmX m c) ∗ own c (Memref.whole main_arg1) fullShare (hbmW m c))

theorem xSl_at (d r : Fin 2) (s k : Fin 4) (x : S256x2048.Idx) (y : S1024x2048.Idx)
    (h0 : (y (0 : Fin 2)).val = 256 * k.val + (x (0 : Fin 2)).val) (h1 : (y (1 : Fin 2)).val = (x (1 : Fin 2)).val) :
    (Rect.unit (s := S8192x2048) (xOff c d r s k) S256x2048.size (xOff_inb c d r s k)).emb x = (xRect (chunkOf c d s) r).emb y := by
  have ho := xOff_eq c d r s k
  funext a
  refine Fin.ext ?_
  show xOff c d r s k a + 1 * (x a).val = (![2048 * (chunkOf c d s).val + 1024 * r.val, 0] : Fin 2 → ℕ) a + 1 * (y a).val
  rw [ho]
  match a with
  | 0 =>
    show 2048 * (chunkOf c d s).val + 1024 * r.val + 256 * k.val + 1 * (x (0 : Fin 2)).val
      = 2048 * (chunkOf c d s).val + 1024 * r.val + 1 * (y (0 : Fin 2)).val
    omega
  | 1 =>
    show 0 + 1 * (x (1 : Fin 2)).val = 0 + 1 * (y (1 : Fin 2)).val
    omega

theorem wSl_at (d : Fin 2) (k : Fin 8) (x : S256x2048.Idx) (y : S2048x2048.Idx)
    (h0 : (y (0 : Fin 2)).val = 256 * k.val + (x (0 : Fin 2)).val) (h1 : (y (1 : Fin 2)).val = (x (1 : Fin 2)).val) :
    (Rect.unit (s := S2048x4096) ![256 * k.val, 2048 * d.val] S256x2048.size (wOff_inb d k)).emb x = (wRect d).emb y := by
  funext a
  refine Fin.ext ?_
  show (![256 * k.val, 2048 * d.val] : Fin 2 → ℕ) a + 1 * (x a).val = (![0, 2048 * d.val] : Fin 2 → ℕ) a + 1 * (y a).val
  match a with
  | 0 =>
    show 256 * k.val + 1 * (x (0 : Fin 2)).val = 0 + 1 * (y (0 : Fin 2)).val
    omega
  | 1 =>
    show 2048 * d.val + 1 * (x (1 : Fin 2)).val = 2048 * d.val + 1 * (y (1 : Fin 2)).val
    omega

theorem wp_loadX (b d r : Fin 2) (s : Fin 4) {O : CellTallies nD τ sig ℕ} (hO : Above 0 O) {k : PG F} :
    iprop(ctx m ∗ args m c ∗ strips c ∗ (∃ G, own c (xb b) fullShare G) ∗ owing c O)
      ⊢ iprop((args m c ∗ strips c ∗ own c (xb b) fullShare (xv (hbmX m c) (chunkOf c d s) r) ∗ owing c O -∗ WP c k Q)
        -∗ WP c (loadX c b d r s k) Q) :=
  wp_fill m c (n := 4) rfl (fun i => xSl c d r s i) (xb b) xIn _ (args m c)
    (fun i x => hbmX m c ((Rect.unit (s := S8192x2048) (xOff c d r s i) S256x2048.size (xOff_inb c d r s i)).emb x))
    (fun i => by
      unfold args
      iintro ⟨Hx, Hw⟩
      ihave H := (own_lend c (Memref.whole main_arg0) fullShare (hbmX m c)
        (Rect.unit (s := S8192x2048) (xOff c d r s i) S256x2048.size (xOff_inb c d r s i)) (fun _ => rfl)) $$ Hx
      icases H with ⟨Hs, Hb⟩
      isplitl [Hs]; · iexact Hs
      iintro Hs
      isplitl [Hb Hs]
      · iapply Hb; iexact Hs
      iexact Hw)
    (xv (hbmX m c) (chunkOf c d s) r)
    (fun i x y h0 h1 => by
      rw [pStrip_apply]
      exact congrArg (fun j => truncf .bf16 (fun _ : S256x2048.Idx => hbmX m c j : FVec F S256x2048 .f32) bitsLt_bf16_f32 x)
        (xSl_at c d r s i x y h0 h1))
    hO

theorem wp_loadW (d : Fin 2) {O : CellTallies nD τ sig ℕ} (hO : Above 0 O) {k : PG F} :
    iprop(ctx m ∗ args m c ∗ strips c ∗ (∃ G, own c (wh d) fullShare G) ∗ owing c O)
      ⊢ iprop((args m c ∗ strips c ∗ own c (wh d) fullShare (wv (hbmW m c) d) ∗ owing c O -∗ WP c k Q)
        -∗ WP c (loadW d k) Q) :=
  wp_fill m c (n := 8) rfl (fun i => wSl d i) (wh d) wIn _ (args m c)
    (fun i x => hbmW m c ((Rect.unit (s := S2048x4096) ![256 * i.val, 2048 * d.val] S256x2048.size (wOff_inb d i)).emb x))
    (fun i => by
      unfold args
      iintro ⟨Hx, Hw⟩
      ihave H := (own_lend c (Memref.whole main_arg1) fullShare (hbmW m c)
        (Rect.unit (s := S2048x4096) ![256 * i.val, 2048 * d.val] S256x2048.size (wOff_inb d i)) (fun _ => rfl)) $$ Hw
      icases H with ⟨Hs, Hb⟩
      isplitl [Hs]; · iexact Hs
      iintro Hs
      isplitl [Hx]; · iexact Hx
      iapply Hb; iexact Hs)
    (wv (hbmW m c) d)
    (fun i x y h0 h1 => by
      rw [pStrip_apply]
      exact congrArg (fun j => truncf .bf16 (fun _ : S256x2048.Idx => hbmW m c j : FVec F S256x2048 .f32) bitsLt_bf16_f32 x)
        (wSl_at d i x y h0 h1))
    hO

/-- The product of the staged block and the staged half of `w`. -/
theorem wp_dots (b d p : Fin 2) {q q' : PosShare TreeShare} (X : Vec F S1024x2048 .bf16) (W : Vec F S2048x2048 .bf16) {k : PG F} :
    iprop(own c (xb b) q X ∗ own c (wh d) q' W ∗ ∃ Z, own c (buf d p) fullShare Z)
      ⊢ iprop((own c (xb b) q X ∗ own c (wh d) q' W ∗ own c (buf d p) fullShare (pDot X W) -∗ WP c k Q)
        -∗ WP c (dots b d p k) Q) := by
  unfold dots
  iintro ⟨Hx, Hw, Hz⟩ Hk
  iapply (wp_ld c (xb b) X) $$ Hx
  iintro Hx
  iapply (wp_loadAll c (wh d) _ W) $$ Hw
  iintro Hw
  iapply (wp_st c (buf d p) (buf_whole d p) (pDot X W)) $$ Hz
  iintro Hz
  iapply Hk
  iframe

/-! ## The protocol -/

/-- The wait for a round of one of the core's own cells. -/
theorem wp_wait (k : Kd) {n : ℕ} (hn : n < rounds k) {w : TpuEff nD τ sig (Elt F) Λ₀ .tc PUnit} {v : ℕ}
    (hw : ∀ K : PUnit → sProp 𝕄, wpE (defs₀ (F := F)) 𝒱₀ (c : Thread nD τ) none Set.univ w K
      = waitSpec (c : Thread nD τ) Set.univ (csem k) v K)
    (hv : v = (duty k).card * pays k) (i : ℕ) (hi : i < 12) {O : CellTallies nD τ sig ℕ} (hO : Above (lvK (some k) i) O)
    {f : PUnit → PG F} :
    iprop(ctx m ∗ cred (tallyAt (cell c k) i v) ∗ owing c O ∗ atPos ER (cell c k) n ∅ 0)
      ⊢ iprop((owing c O ∗ atPos ER (cell c k) (n + 1) ∅ 0 ∗ reached ER (cell c k) (n + 1)
            ∗ bigSep (duty k) (fun d => load m c k n d) -∗ WP c (f ⟨⟩) Q)
        -∗ WP c (.op w f) Q) := by
  unfold owing
  iintro ⟨#Hctx, Hc, ⟨%W, HO⟩, Hat⟩ Hk
  ihave HI := (ctx_inv m c k) $$ Hctx
  icases HI with ⟨%κ, #HI⟩
  have h : iprop(cellInv ER (Rd m) κ (cell c k) ∗ cred (tallyAt (cell c k) i v) ∗ owes (c : Thread nD τ) O W
        ∗ MayWait (c : Thread nD τ) (csem k) i O ∗ atPos ER (cell c k) n ∅ 0)
      ⊢ iprop(((owes (c : Thread nD τ) O (insert (csem k, i) W) ∗ atPos ER (cell c k) (n + 1) ∅ 0 ∗ reached ER (cell c k) (n + 1)
              ∗ bigSep ((Rd m).duties (cell c k) n \ ∅) (fun d => (Rd m).payload (cell c k) n d)) -∗ WP c (f ⟨⟩) Q)
          -∗ WP c (.op w f) Q) :=
    Rounds.wp_wait_rest_token 𝒱₀ ER (Rd m) (c : Thread nD τ) none (κ := κ) (sm := csem k) hw (Set.mem_univ _) i (R := n) (m := 0) (T := ∅)
      (by rw [Nat.zero_add, hv]; exact (expect_eq m c hn).symm)
  rw [rest_eq m c hn] at h
  iapply h $$ [Hc HO Hat]
  · isplitr; · iexact HI
    isplitl [Hc]; · iexact Hc
    isplitl [HO]; · iexact HO
    isplitr
    · iapply (mayWait c (csem k) hi (O := O) (by
        show Above (lvK (kindOf (cell c k)) i) O
        rw [kindOf_cell]; exact hO))
      iapply (ctx_lev m); iexact Hctx
    iexact Hat
  iintro ⟨HO, Hat, Hr, Hp⟩
  iapply Hk
  isplitl [HO]; · iexists _; iexact HO
  iframe

/-- The signal that pays a duty of a round of a cell of device `c'`. -/
theorem wp_pay (c' : Dev nD) (k : Kd) (s : Sem sig) (hk : csem k = .reg s) {n : ℕ} (hn : n < rounds k) (d : Fin 2) (hd : d ∈ duty k)
    (hv : pays k = 1) (i : ℕ) {O₀ : CellTallies nD τ sig ℕ} (O : CellTallies nD τ sig ℕ) (hO : O₀ = O + tallyAt (cell c' k) i 1)
    {f : PUnit → PG F} :
    iprop(ctx m ∗ owing c O₀ ∗ dutyTok ER (cell c' k) n d ∗ load m c' k n d ∗ reached ER (cell c' k) n)
      ⊢ iprop((owing c O -∗ WP c (f ⟨⟩) Q) -∗ WP c (.op (.semSignal (c' : Thread nD τ) s (1#32).toInt) f) Q) := by
  have hI := ctx_inv m c' k
  have hcell : cell c' k = ((c' : Thread nD τ), SemLoc.reg s) := by unfold cell; rw [hk]
  have hd' := duties_mem m c' hn hd
  have ha := (amount_eq m c' k n d).trans hv
  have hp : load m c' k n d = (Rd m).payload (cell c' k) n d := (payload_eq m c' k n d).symm
  rw [hp]
  rw [hcell] at hd' ha hO hI ⊢
  unfold owing
  iintro ⟨#Hctx, ⟨%W, HO⟩, Ht, Hp, Hr⟩ Hk
  ihave HI := hI $$ Hctx
  icases HI with ⟨%κ, #HI⟩
  have h : iprop(cellInv ER (Rd m) κ ((c' : Thread nD τ), SemLoc.reg s) ∗ owes (c : Thread nD τ) O₀ W
        ∗ dutyTok ER ((c' : Thread nD τ), SemLoc.reg s) n d ∗ (Rd m).payload ((c' : Thread nD τ), SemLoc.reg s) n d
        ∗ reached ER ((c' : Thread nD τ), SemLoc.reg s) n)
      ⊢ iprop((owes (c : Thread nD τ) O W -∗ WP c (f ⟨⟩) Q)
          -∗ WP c (.op (.semSignal (c' : Thread nD τ) s (1#32).toInt) f) Q) :=
    Rounds.wp_signal 𝒱₀ ER (Rd m) (c : Thread nD τ) none (κ := κ) hd' ha i O hO
  iapply h $$ [HO Ht Hp Hr]
  · isplitr; · iexact HI
    isplitl [HO]; · iexact HO
    isplitl [Ht]; · iexact Ht
    isplitl [Hp]; · iexact Hp
    iexact Hr
  iintro HO
  iapply Hk
  iexists W; iexact HO

/-- The `n`-th send in direction `d`: it takes the leave to send, and half a share of the accumulator until it has left. -/
theorem wp_send (d p : Fin 2) {n : ℕ} (hn : n < 12) (hp : p = par n) {O₀ : CellTallies nD τ sig ℕ} (O : CellTallies nD τ sig ℕ) {g : ℕ}
    (hO : O₀ = owe d c n g + O) {O₁ : CellTallies nD τ sig ℕ} (hO₁ : owe d c (n + 1) g + O = O₁) {k : PG F} :
    iprop(ctx m ∗ own c (buf d p) fullShare (Msg m d n c) ∗ perm d c n ∗ outT d c n ∗ reached ER (cell c (.snd d)) n
        ∗ reached ER (cell c (.crd d)) n ∗ owing c O₀)
      ⊢ iprop((own c (buf d p) fullShare.right (Msg m d n c) ∗ outT d c (n + 1) ∗ cred (tallyAt (cell c (.snd d)) 0 N) ∗ owing c O₁ -∗ WP c k Q)
        -∗ WP c (send c d p k) Q) := by
  subst hp hO hO₁
  unfold owing perm slot outT send
  rw [bigSep_Ico_bot hn]
  iintro ⟨#Hctx, Hb, ⟨⟨%Z, Hz⟩, Hrv⟩, ⟨⟨Ht, Ht'⟩, Hrest⟩, Hrs, Hrc, ⟨%W, HO⟩⟩ Hk
  ihave HI := (ctx_inv m c (.snd d)) $$ Hctx
  icases HI with ⟨%κ, #HI⟩
  ihave HI' := (ctx_inv m (nx d c) (.rcv d)) $$ Hctx
  icases HI' with ⟨%κ', #HI'⟩
  ihave Hb' := (owns_halves (c : Thread nD τ) (buf d (par n)) fullShare (Msg m d n c)).1 $$ Hb
  icases Hb' with ⟨Hl, Hr⟩
  ihave Hl' := (own_elim c (buf d (par n)) fullShare.left (Msg m d n c)) $$ Hl
  icases Hl' with ⟨%fs, %hfs, Hl⟩
  ihave Hz' := (own_elim (nx d c) (work d) fullShare Z) $$ Hz
  icases Hz' with ⟨%fd, %hfd, Hz⟩
  have hO : owe d c n g + O = (owe d c (n + 1) g + O) + tallyAt (cell (nx d c) (.rcv d)) n N := by
    rw [owe_send d c hn]; exact add_right_comm _ _ _
  have hpay : iprop(((work d).view.loc (nx d c : Thread nD τ) ↦[(work d).view.set]{fullShare}
        ((work d).view.write (Elt F) fd ((buf d (par n)).view.read (Elt F) fs) Finset.univ)) ∗ reached ER (cell c (.crd d)) n)
      ⊢ load m (nx d c) (.rcv d) n 0 := by
    show _ ⊢ iprop(owns (nx d c : Thread nD τ) (work d) fullShare (Msg m d n (pv d (nx d c))) ∗ reached ER (cell (pv d (nx d c)) (.crd d)) n)
    rw [pv_nx]
    iintro ⟨H, Hr⟩
    isplitl [H]
    · iapply (own_of (nx d c) (work d) fullShare ((View.read_write_univ _ _).trans hfs)); iexact H
    · iexact Hr
  have h : iprop(cellInv ER (Rd m) κ (cell c (.snd d)) ∗ cellInv ER (Rd m) κ' (cell (nx d c) (.rcv d))
        ∗ ((buf d (par n)).view.loc (c : Thread nD τ) ↦[(buf d (par n)).view.set]{fullShare.left} fs)
        ∗ (((work d).view.loc (nx d c : Thread nD τ) ↦[(work d).view.set]{fullShare} fd) ∗ reached ER (cell c (.crd d)) n)
        ∗ owes (c : Thread nD τ) (owe d c n g + O) W
        ∗ dutyTok ER (cell c (.snd d)) n 0 ∗ reached ER (cell c (.snd d)) n
        ∗ dutyTok ER (cell (nx d c) (.rcv d)) n 0 ∗ reached ER (cell (nx d c) (.rcv d)) n)
      ⊢ iprop(((cred (tallyAt (cell c (.snd d)) 0 N) ∗ owes (c : Thread nD τ) (owe d c (n + 1) g + O) W) -∗ WP c k Q)
          -∗ WP c (send c d (par n) k) Q) :=
    Rounds.wp_send_pointsTo_with 𝒱₀ ER (Rd m) (c : Thread nD τ) none (κ₁ := κ) (κ₂ := κ')
      (sS := .dma (sendS d)) (sem := .dma (recvS d)) (c' := (nx d c : Thread nD τ)) (src := buf d (par n)) (dst := work d) (fd := fd)
      (W := W) (k := fun _ => k) (Q := Q) (defs := defs₀ (F := F)) (r₁ := n) (r₂ := n) (d₁ := 0) (d₂ := 0)
      (duties_mem m c (k := .snd d) hn (Finset.mem_singleton_self _)) (duties_mem m (nx d c) (k := .rcv d) hn (Finset.mem_singleton_self _))
      n 0 N (N_work d) (amount_eq m c (.snd d) n 0) (amount_eq m (nx d c) (.rcv d) n 0)
      (owe d c (n + 1) g + O) hO
      ((own_of c (buf d (par n)) fullShare.left hfs).trans (Entails.of_eq (payload_eq m c (.snd d) n 0).symm))
      (hpay.trans (Entails.of_eq (payload_eq m (nx d c) (.rcv d) n 0).symm))
  iapply h $$ [Hl Hz Hrc HO Ht Hrs Ht' Hrv]
  · isplitr; · iexact HI
    isplitr; · iexact HI'
    isplitl [Hl]; · iexact Hl
    isplitl [Hz Hrc]
    · isplitl [Hz]; · iexact Hz
      iexact Hrc
    isplitl [HO]; · iexact HO
    isplitl [Ht]; · iexact Ht
    isplitl [Hrs]; · iexact Hrs
    isplitl [Ht']; · iexact Ht'
    iexact Hrv
  iintro ⟨Hc, HO⟩
  iapply Hk
  isplitl [Hr]; · iexact Hr
  isplitl [Hrest]; · iexact Hrest
  isplitl [Hc]; · iexact Hc
  iexists W; iexact HO

/-- The wait for the `n`-th departure and the `n`-th arrival in direction `d`. -/
theorem wp_waitXfer (d p : Fin 2) {n : ℕ} (hn : n < 12) (hp : p = par n) {O : CellTallies nD τ sig ℕ}
    (h0 : Above 0 O) (hO : Above (2 * n + 2) O) {k : PG F} :
    iprop(ctx m ∗ inT d c n ∗ cred (tallyAt (cell c (.snd d)) 0 N) ∗ owing c O)
      ⊢ iprop((inT d c (n + 1) ∗ reached ER (cell c (.snd d)) (n + 1) ∗ reached ER (cell c (.rcv d)) (n + 1)
            ∗ own c (buf d p) fullShare.left (Msg m d n c) ∗ own c (work d) fullShare (Msg m d n (pv d c))
            ∗ reached ER (cell (pv d c) (.crd d)) n ∗ owing c O -∗ WP c k Q)
        -∗ WP c (waitXfer d p k) Q) := by
  subst hp
  unfold inT waitXfer
  rw [bigSep_Ico_bot hn]
  have hs : bigSep (duty (.snd d)) (fun e => load m c (.snd d) n e) = own c (buf d (par n)) fullShare.left (Msg m d n c) :=
    bigSep_singleton
  have hr : bigSep (duty (.rcv d)) (fun e => load m c (.rcv d) n e)
      = iprop(own c (work d) fullShare (Msg m d n (pv d c)) ∗ reached ER (cell (pv d c) (.crd d)) n) :=
    bigSep_singleton
  iintro ⟨#Hctx, ⟨Hs, Hr, Hc, Hcs⟩, Hcr, HO⟩ Hk
  iapply (wp_wait m c (.snd d) (n := n) hn (wpE_waitDma2_eq 𝒱₀ (c : Thread nD τ) none Set.univ)
    (v := (buf d (par n)).view.dmaCredit) (by rw [N_buf]; exact (Nat.one_mul _).symm) 0 (by decide) (O := O) h0) $$ [Hs Hcr HO]
  · isplitr; · iexact Hctx
    isplitl [Hcr]; · rw [N_buf]; iexact Hcr
    isplitl [HO]; · iexact HO
    iexact Hs
  rw [hs]
  iintro ⟨HO, Hs, Hs', Hb⟩
  iapply (wp_wait m c (.rcv d) (n := n) hn (wpE_waitDma2_eq 𝒱₀ (c : Thread nD τ) none Set.univ)
    (v := (work d).view.dmaCredit) (by rw [N_work]; exact (Nat.one_mul _).symm) n hn (O := O) hO) $$ [Hr Hc HO]
  · isplitr; · iexact Hctx
    isplitl [Hc]; · rw [N_work]; iexact Hc
    isplitl [HO]; · iexact HO
    iexact Hr
  rw [hr]
  iintro ⟨HO, Hr, Hr', Hw, Hq⟩
  iapply Hk
  isplitl [Hs Hr Hcs]
  · isplitl [Hs]; · iexact Hs
    isplitl [Hr]; · iexact Hr
    iexact Hcs
  isplitl [Hs']; · iexact Hs'
  isplitl [Hr']; · iexact Hr'
  isplitl [Hb]; · iexact Hb
  isplitl [Hw]; · iexact Hw
  isplitl [Hq]; · iexact Hq
  iexact HO

/-- The `n`-th credit given: the arrival block goes back to the previous device. -/
theorem wp_grant (d : Fin 2) {n : ℕ} (hn : n < 11) {O₀ : CellTallies nD τ sig ℕ} (O : CellTallies nD τ sig ℕ) {a : ℕ}
    (hO : O₀ = owe d c a n + O) {O₁ : CellTallies nD τ sig ℕ} (hO₁ : owe d c a (n + 1) + O = O₁) (X : Vec F S1024x2048 .bf16) {k : PG F} :
    iprop(ctx m ∗ own c (work d) fullShare X ∗ reached ER (cell c (.rcv d)) (n + 1) ∗ reached ER (cell (pv d c) (.crd d)) n
        ∗ grT d c n ∗ owing c O₀)
      ⊢ iprop((grT d c (n + 1) ∗ owing c O₁ -∗ WP c k Q) -∗ WP c (grant c d k) Q) := by
  subst hO hO₁
  have hl : load m (pv d c) (.crd d) n 0 = iprop(slot d c ∗ reached ER (cell c (.rcv d)) (n + 1)) := by
    show perm d (pv d c) (n + 1) = _
    unfold perm; rw [nx_pv]
  have hO : owe d c a n + O = (owe d c a (n + 1) + O) + tallyAt (cell (pv d c) (.crd d)) n 1 := by
    rw [owe_grant d c hn]; exact add_right_comm _ _ _
  have h := wp_pay m c (pv d c) (.crd d) (credS d) rfl (n := n) hn 0 (Finset.mem_singleton_self _) rfl n (owe d c a (n + 1) + O) hO
    (Q := Q) (f := fun _ => k)
  rw [hl] at h
  unfold grT grant
  rw [bigSep_Ico_bot hn]
  iintro ⟨#Hctx, Hw, Hr, Hq, ⟨Ht, Hts⟩, HO⟩ Hk
  iapply h $$ [Hw Hr Hq Ht HO]
  · isplitr; · iexact Hctx
    isplitl [HO]; · iexact HO
    isplitl [Ht]; · iexact Ht
    isplitl [Hw Hr]
    · isplitl [Hw]
      · unfold slot; iexists X; iexact Hw
      · iexact Hr
    iexact Hq
  iintro HO
  iapply Hk
  isplitl [Hts]; · iexact Hts
  iexact HO

/-- The wait for the `n`-th credit: leave for the next send. -/
theorem wp_credit (d : Fin 2) {n : ℕ} (hn : n < 11) {O : CellTallies nD τ sig ℕ} (hO : Above (2 * n + 3) O) {k : PG F} :
    iprop(ctx m ∗ crT d c n ∗ owing c O)
      ⊢ iprop((crT d c (n + 1) ∗ reached ER (cell c (.crd d)) (n + 1) ∗ perm d c (n + 1) ∗ owing c O -∗ WP c k Q)
        -∗ WP c (credit d k) Q) := by
  unfold crT credit
  rw [bigSep_Ico_bot hn]
  have hp : bigSep (duty (.crd d)) (fun e => load m c (.crd d) n e) = perm d c (n + 1) := bigSep_singleton
  iintro ⟨#Hctx, ⟨Hat, Hc, Hcs⟩, HO⟩ Hk
  iapply (wp_wait m c (.crd d) (n := n) hn (wpE_semWait_eq 𝒱₀ (c : Thread nD τ) none Set.univ)
    (v := 1) rfl n (by omega) (O := O) hO) $$ [Hat Hc HO]
  · isplitr; · iexact Hctx
    isplitl [Hc]; · iexact Hc
    isplitl [HO]; · iexact HO
    iexact Hat
  rw [hp]
  iintro ⟨HO, Hat, Hr, Hp⟩
  iapply Hk
  isplitl [Hat Hcs]
  · isplitl [Hat]; · iexact Hat
    iexact Hcs
  isplitl [Hr]; · iexact Hr
  isplitl [Hp]; · iexact Hp
  iexact HO

/-! ## Stores into the result -/

/-- A store of `M`'s contents into a block of the result, under way. -/
def outFl (d r : Fin 2) (j : Fin 4) (M : Blk) (q : PosShare TreeShare) (X : Vec F S1024x2048 .bf16) : sProp 𝕄 :=
  Transfers.Flight countersEmb (c : Thread nD τ) (.dma (storeS d)) 0 (oSl c d r j).view.dmaCredit
    iprop(own c (oSl c d r j) fullShare X ∗ own c M q X)

/-- A block of the result that is still to be filled. -/
def hole (d r : Fin 2) (j : Fin 4) : sProp 𝕄 := iprop(∃ Z : Vec F S1024x2048 .bf16, own c (oSl c d r j) fullShare Z)

theorem wp_stOut (d r : Fin 2) (j : Fin 4) (M : Blk) (h : M.IsWhole) {q : PosShare TreeShare} (X : Vec F S1024x2048 .bf16) {k : PG F} :
    iprop(own c M q X ∗ hole c d r j ∗ semVal ((c : Thread nD τ), SemLoc.dma (storeS d)) 0)
      ⊢ iprop((outFl c d r j M q X -∗ WP c k Q) -∗ WP c (stOut c d r j M h k) Q) := by
  unfold stOut hole outFl
  iintro ⟨Hm, ⟨%Z, Hz⟩, Hv⟩ Hk
  ihave Hm' := (own_elim c M q X) $$ Hm
  icases Hm' with ⟨%fs, %hfs, Hm⟩
  ihave Hz' := (own_elim c (oSl c d r j) fullShare Z) $$ Hz
  icases Hz' with ⟨%fz, %hfz, Hz⟩
  iapply (Transfers.wp_dmaLocal countersEmb 𝒱₀ (c : Thread nD τ) none 0 (oSl c d r j).view.dmaCredit rfl
    (View.dmaCredit_pos _ (by decide)) subset_rfl (src := M) (dst := oSl c d r j) (sm := .dma (storeS d)) (via := .same)) $$ [Hm Hz Hv]
  · isplitl [Hm]; · iexact Hm
    isplitl [Hz]; · iexact Hz
    iexact Hv
  iintro Hfl
  iapply Hk
  iapply (Transfers.Flight_mono countersEmb (c : Thread nD τ)
    (BI.sep_mono (own_of c (oSl c d r j) fullShare ((View.read_write_univ (v := (oSl c d r j).view) fz _).trans hfs)) (own_of c M q hfs)))
  iexact Hfl

theorem wp_wtOut (d r : Fin 2) (j : Fin 4) (M : Blk) (h : M.IsWhole) {q : PosShare TreeShare} (X : Vec F S1024x2048 .bf16)
    {O : CellTallies nD τ sig ℕ} (hO : Above 0 O) {k : PG F} :
    iprop(ctx m ∗ outFl c d r j M q X ∗ owing c O)
      ⊢ iprop((own c M q X ∗ own c (oSl c d r j) fullShare X ∗ semVal ((c : Thread nD τ), SemLoc.dma (storeS d)) 0 ∗ owing c O -∗ WP c k Q)
        -∗ WP c (wtOut c d r j M h k) Q) := by
  unfold wtOut outFl owing
  iintro ⟨#Hctx, Hfl, ⟨%W, HO⟩⟩ Hk
  iapply (Transfers.wp_waitLocalO countersEmb 𝒱₀ (c : Thread nD τ) none 0 rfl) $$ [Hfl HO]
  · isplitl [Hfl]; · iexact Hfl
    isplitl [HO]; · iexact HO
    iapply (mayWait c (.dma (storeS d)) (by decide : 0 < 12) (O := O) (by
      rw [lv_dma c (storeS d) (by revert d; decide)]; exact hO))
    iapply (ctx_lev m); iexact Hctx
  iintro ⟨⟨Hz, Hm⟩, Hv, HO⟩
  iapply Hk
  isplitl [Hm]; · iexact Hm
  isplitl [Hz]; · iexact Hz
  isplitl [Hv]; · iexact Hv
  iexists _; iexact HO

end Cert.KernelIdeal.Ring

end
-- ==== Proof.Body.lean ====
/-
  The body, phase by phase: a transfer in one direction, a step of reducing, a step of gathering, a round, the end of each
  round.
-/
module

public import proofs.«01_k».proof.Proof.Ops

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## Which block is sent when -/

theorem Msg_acc (d r : Fin 2) {s : ℕ} (hs : s < 3) (c : Dev nD) : Msg m d (6 * r.val + s) c = acc m d r s c := by
  have h1 : (6 * r.val + s) % 6 = s := by omega
  have h2 : Fin.ofNat 2 ((6 * r.val + s) / 6) = r := Fin.ext (by
    show (6 * r.val + s) / 6 % 2 = r.val
    have := r.isLt; omega)
  unfold Msg
  rw [h1, h2, if_pos hs]

theorem Msg_gath (d r : Fin 2) {s : ℕ} (hs : s < 3) (c : Dev nD) : Msg m d (6 * r.val + 3 + s) c = gath m d r s c := by
  have h1 : (6 * r.val + 3 + s) % 6 = s + 3 := by omega
  have h2 : Fin.ofNat 2 ((6 * r.val + 3 + s) / 6) = r := Fin.ext (by
    show (6 * r.val + 3 + s) / 6 % 2 = r.val
    have := r.isLt; omega)
  unfold Msg
  rw [h1, h2, if_neg (by omega), Nat.add_sub_cancel]

/-! ## The states of one direction -/

/-- Before send `n`, with the leave to make it; -/
def Rdy (d : Fin 2) (n : ℕ) : sProp 𝕄 :=
  iprop(perm d c n ∗ reached ER (cell c (.crd d)) n ∗ reached ER (cell c (.snd d)) n ∗ outT d c n ∗ inT d c n ∗ crT d c n ∗ grT d c n)
/-- with send `n` under way; -/
def Fly (d : Fin 2) (n : ℕ) : sProp 𝕄 :=
  iprop(cred (tallyAt (cell c (.snd d)) 0 N) ∗ outT d c (n + 1) ∗ inT d c n ∗ crT d c n ∗ grT d c n)
/-- with block `n` arrived and the arrival block not yet given back; -/
def Got (d : Fin 2) (n : ℕ) : sProp 𝕄 :=
  iprop(reached ER (cell c (.snd d)) (n + 1) ∗ reached ER (cell c (.rcv d)) (n + 1) ∗ reached ER (cell (pv d c) (.crd d)) n
    ∗ outT d c (n + 1) ∗ inT d c (n + 1) ∗ crT d c n ∗ grT d c n)
/-- and with it given back, before the credit for the next send. -/
def Idl (d : Fin 2) (n : ℕ) : sProp 𝕄 :=
  iprop(reached ER (cell c (.snd d)) (n + 1) ∗ outT d c (n + 1) ∗ inT d c (n + 1) ∗ crT d c n ∗ grT d c (n + 1))

/-- What is owed with `a` sends made and `g` credits given in both directions. -/
abbrev owes2 (a g a' g' : ℕ) : CellTallies nD τ sig ℕ := owe 0 c a g + owe 1 c a' g'

theorem above2 {cut a g a' g' : ℕ} (h : cut < 2 * a + 2 := by omega) (h1 : cut < 2 * g + 3 := by omega) (h2 : cut < 2 * a' + 2 := by omega)
    (h3 : cut < 2 * g' + 3 := by omega) : Above cut (owes2 c a g a' g') := (Above.owe 0 c h h1).add (Above.owe 1 c h2 h3)

/-- An accumulator, whatever it holds. -/
def free (d p : Fin 2) : sProp 𝕄 := iprop(∃ Z : Vec F S1024x2048 .bf16, own c (buf d p) fullShare Z)

/-- What the products are made with. -/
def tools : sProp 𝕄 :=
  iprop(args m c ∗ strips c ∗ own c (wh 0) fullShare (wv (hbmW m c) 0) ∗ own c (wh 1) fullShare (wv (hbmW m c) 1)
    ∗ (∃ G : Vec F S1024x2048 .bf16, own c (xb 0) fullShare G) ∗ (∃ G : Vec F S1024x2048 .bf16, own c (xb 1) fullShare G))

variable {Q : PUnit.{1} → sProp (MT nD τ sig ℕ (Elt F) ℕ UU ℕ)}

theorem wp_sends (p : Fin 2) {n : ℕ} (hn : n < 12) (hp : p = par n) {k : PG F} :
    iprop(ctx m ∗ own c (buf 0 p) fullShare (Msg m 0 n c) ∗ own c (buf 1 p) fullShare (Msg m 1 n c) ∗ Rdy c 0 n ∗ Rdy c 1 n
        ∗ owing c (owes2 c n n n n))
      ⊢ iprop((own c (buf 0 p) fullShare.right (Msg m 0 n c) ∗ own c (buf 1 p) fullShare.right (Msg m 1 n c) ∗ Fly c 0 n ∗ Fly c 1 n
          ∗ owing c (owes2 c (n + 1) n (n + 1) n) -∗ WP c k Q) -∗ WP c (send c 0 p <| send c 1 p k) Q) := by
  unfold Rdy Fly
  iintro ⟨#Hctx, Hb0, Hb1, ⟨Hp0, Hc0, Hs0, Ho0, Hi0⟩, ⟨Hp1, Hc1, Hs1, Ho1, Hi1⟩, HO⟩ Hk
  iapply (wp_send m c 0 p hn hp (owe 1 c n n) (g := n) rfl (O₁ := owes2 c (n + 1) n n n) rfl) $$ [Hb0 Hp0 Hc0 Hs0 Ho0 HO]
  · iframe; iexact Hctx
  iintro ⟨Hb0, Ho0, Hcr0, HO⟩
  iapply (wp_send m c 1 p hn hp (owe 0 c (n + 1) n) (g := n) (add_comm _ _) (O₁ := owes2 c (n + 1) n (n + 1) n) (add_comm _ _))
    $$ [Hb1 Hp1 Hc1 Hs1 Ho1 HO]
  · iframe; iexact Hctx
  iintro ⟨Hb1, Ho1, Hcr1, HO⟩
  iapply Hk
  iframe

/-- The arrival of block `n`. -/
theorem wp_recv (d p : Fin 2) {n : ℕ} (hn : n < 12) (hp : p = par n) {O : CellTallies nD τ sig ℕ}
    (h0 : Above 0 O) (hO : Above (2 * n + 2) O) {k : PG F} :
    iprop(ctx m ∗ Fly c d n ∗ owing c O)
      ⊢ iprop((Got c d n ∗ own c (buf d p) fullShare.left (Msg m d n c) ∗ own c (work d) fullShare (Msg m d n (pv d c)) ∗ owing c O -∗ WP c k Q)
        -∗ WP c (waitXfer d p k) Q) := by
  unfold Fly Got
  iintro ⟨#Hctx, ⟨Hcr, Ho, Hi, Hrest⟩, HO⟩ Hk
  iapply (wp_waitXfer m c d p hn hp h0 hO) $$ [Hcr Hi HO]
  · iframe; iexact Hctx
  iintro ⟨Hi, Hs, Hr, Hb, Hw, Hq, HO⟩
  iapply Hk
  iframe

/-- The arrival block given back. -/
theorem wp_back (d : Fin 2) {n : ℕ} (hn : n < 11) {O₀ : CellTallies nD τ sig ℕ} (O : CellTallies nD τ sig ℕ) {a : ℕ}
    (hO : O₀ = owe d c a n + O) {O₁ : CellTallies nD τ sig ℕ} (hO₁ : owe d c a (n + 1) + O = O₁) (X : Vec F S1024x2048 .bf16) {k : PG F} :
    iprop(ctx m ∗ own c (work d) fullShare X ∗ Got c d n ∗ owing c O₀)
      ⊢ iprop((Idl c d n ∗ owing c O₁ -∗ WP c k Q) -∗ WP c (grant c d k) Q) := by
  unfold Got Idl
  iintro ⟨#Hctx, Hw, ⟨Hs, Hr, Hq, Ho, Hi, Hc, Hg⟩, HO⟩ Hk
  iapply (wp_grant m c d hn O hO hO₁ X) $$ [Hw Hr Hq Hg HO]
  · iframe; iexact Hctx
  iintro ⟨Hg, HO⟩
  iapply Hk
  iframe

theorem wp_credits {n : ℕ} (hn : n < 11) {k : PG F} :
    iprop(ctx m ∗ Idl c 0 n ∗ Idl c 1 n ∗ owing c (owes2 c (n + 1) (n + 1) (n + 1) (n + 1)))
      ⊢ iprop((Rdy c 0 (n + 1) ∗ Rdy c 1 (n + 1) ∗ owing c (owes2 c (n + 1) (n + 1) (n + 1) (n + 1)) -∗ WP c k Q) -∗ WP c (credits k) Q) := by
  have hO : Above (2 * n + 3) (owes2 c (n + 1) (n + 1) (n + 1) (n + 1)) := above2 c
  unfold Rdy Idl credits
  iintro ⟨#Hctx, ⟨Hs0, Ho0, Hi0, Hc0, Hg0⟩, ⟨Hs1, Ho1, Hi1, Hc1, Hg1⟩, HO⟩ Hk
  iapply (wp_credit m c 0 hn hO) $$ [Hc0 HO]
  · iframe; iexact Hctx
  iintro ⟨Hc0, Hr0, Hp0, HO⟩
  iapply (wp_credit m c 1 hn hO) $$ [Hc1 HO]
  · iframe; iexact Hctx
  iintro ⟨Hc1, Hr1, Hp1, HO⟩
  iapply Hk
  iframe

/-- The two halves of an accumulator's share put together. -/
theorem join_buf (d p : Fin 2) (X : Vec F S1024x2048 .bf16) :
    iprop(own c (buf d p) fullShare.left X ∗ own c (buf d p) fullShare.right X) ⊢ own c (buf d p) fullShare X :=
  (owns_halves (c : Thread nD τ) (buf d p) fullShare X).2

theorem to_free (d p : Fin 2) (X : Vec F S1024x2048 .bf16) : own c (buf d p) fullShare X ⊢ free c d p := by
  unfold free; iintro H; iexists X; iexact H

/-- The end of a step of reducing in one direction: what arrives is added, and the arrival block given back. -/
theorem wp_add (d p q : Fin 2) {n : ℕ} (hn : n < 11) (hp : p = par n) {O₀ : CellTallies nD τ sig ℕ} (O : CellTallies nD τ sig ℕ)
    (hO : O₀ = owe d c (n + 1) n + O) {O₁ : CellTallies nD τ sig ℕ} (hO₁ : owe d c (n + 1) (n + 1) + O = O₁)
    (h0 : Above 0 O₀) (h1 : Above (2 * n + 2) O₀) (A : Vec F S1024x2048 .bf16) {k : PG F} :
    iprop(ctx m ∗ Fly c d n ∗ own c (buf d p) fullShare.right (Msg m d n c) ∗ own c (buf d q) fullShare A ∗ owing c O₀)
      ⊢ iprop((Idl c d n ∗ free c d p ∗ own c (buf d q) fullShare (pAdd A (Msg m d n (pv d c))) ∗ owing c O₁ -∗ WP c k Q)
        -∗ WP c (waitXfer d p <| ld (buf d q) fun a => ld (work d) fun b => st (buf d q) (buf_whole d q) (pAdd a b) <| grant c d k) Q) := by
  iintro ⟨#Hctx, Hf, Hr, Hq, HO⟩ Hk
  iapply (wp_recv m c d p (n := n) (by omega) hp h0 h1) $$ [Hf HO]
  · iframe; iexact Hctx
  iintro ⟨Hf, Hl, Hw, HO⟩
  iapply (wp_ld c (buf d q) A) $$ Hq
  iintro Hq
  iapply (wp_ld c (work d) (Msg m d n (pv d c))) $$ Hw
  iintro Hw
  iapply (wp_st c (buf d q) (buf_whole d q) (pAdd A (Msg m d n (pv d c)))) $$ [Hq]
  · iexists A; iexact Hq
  iintro Hq
  iapply (wp_back m c d hn O hO hO₁ (Msg m d n (pv d c))) $$ [Hw Hf HO]
  · iframe; iexact Hctx
  iintro ⟨Hf, HO⟩
  iapply Hk
  isplitl [Hf]; · iexact Hf
  isplitl [Hl Hr]
  · iapply (to_free c d p (Msg m d n c)); iapply (join_buf c d p (Msg m d n c)); isplitl [Hl]; · iexact Hl
    iexact Hr
  isplitl [Hq]; · iexact Hq
  iexact HO

/-- A step of gathering in one direction: what arrives is taken over, and the arrival block given back. -/
theorem wp_take (d p q : Fin 2) {n : ℕ} (hn : n < 11) (hp : p = par n) {O₀ : CellTallies nD τ sig ℕ} (O : CellTallies nD τ sig ℕ)
    (hO : O₀ = owe d c (n + 1) n + O) {O₁ : CellTallies nD τ sig ℕ} (hO₁ : owe d c (n + 1) (n + 1) + O = O₁)
    (h0 : Above 0 O₀) (h1 : Above (2 * n + 2) O₀) {k : PG F} :
    iprop(ctx m ∗ Fly c d n ∗ free c d q ∗ owing c O₀)
      ⊢ iprop((Idl c d n ∗ own c (buf d p) fullShare.left (Msg m d n c) ∗ own c (buf d q) fullShare (Msg m d n (pv d c)) ∗ owing c O₁ -∗ WP c k Q)
        -∗ WP c (take c d p q k) Q) := by
  unfold take free
  iintro ⟨#Hctx, Hf, Hq, HO⟩ Hk
  iapply (wp_recv m c d p (n := n) (by omega) hp h0 h1) $$ [Hf HO]
  · iframe; iexact Hctx
  iintro ⟨Hf, Hl, Hw, HO⟩
  iapply (wp_ld c (work d) (Msg m d n (pv d c))) $$ Hw
  iintro Hw
  rw [pCpy_eq]
  iapply (wp_st c (buf d q) (buf_whole d q) (Msg m d n (pv d c))) $$ Hq
  iintro Hq
  iapply (wp_back m c d hn O hO hO₁ (Msg m d n (pv d c))) $$ [Hw Hf HO]
  · iframe; iexact Hctx
  iintro ⟨Hf, HO⟩
  iapply Hk
  iframe

theorem wp_takes (p q : Fin 2) {n : ℕ} (hn : n < 11) (hp : p = par n) {k : PG F} :
    iprop(ctx m ∗ Fly c 0 n ∗ Fly c 1 n ∗ free c 0 q ∗ free c 1 q ∗ owing c (owes2 c (n + 1) n (n + 1) n))
      ⊢ iprop((Idl c 0 n ∗ Idl c 1 n ∗ own c (buf 0 p) fullShare.left (Msg m 0 n c) ∗ own c (buf 1 p) fullShare.left (Msg m 1 n c)
          ∗ own c (buf 0 q) fullShare (Msg m 0 n (pv 0 c)) ∗ own c (buf 1 q) fullShare (Msg m 1 n (pv 1 c))
          ∗ owing c (owes2 c (n + 1) (n + 1) (n + 1) (n + 1)) -∗ WP c k Q)
        -∗ WP c (take c 0 p q <| take c 1 p q k) Q) := by
  iintro ⟨#Hctx, Hf0, Hf1, Hq0, Hq1, HO⟩ Hk
  iapply (wp_take m c 0 p q hn hp (owe 1 c (n + 1) n) rfl (O₁ := owes2 c (n + 1) (n + 1) (n + 1) n) rfl (above2 c) (above2 c)) $$ [Hf0 Hq0 HO]
  · iframe; iexact Hctx
  iintro ⟨Hf0, Hl0, Hq0, HO⟩
  iapply (wp_take m c 1 p q hn hp (owe 0 c (n + 1) (n + 1)) (add_comm _ _) (O₁ := owes2 c (n + 1) (n + 1) (n + 1) (n + 1)) (add_comm _ _)
    (above2 c) (above2 c)) $$ [Hf1 Hq1 HO]
  · iframe; iexact Hctx
  iintro ⟨Hf1, Hl1, Hq1, HO⟩
  iapply Hk
  iframe

/-! ## Products -/

theorem tools_open (b d : Fin 2) : tools m c ⊢ iprop(args m c ∗ strips c ∗ own c (wh d) fullShare (wv (hbmW m c) d)
    ∗ (∃ G : Vec F S1024x2048 .bf16, own c (xb b) fullShare G)
    ∗ (args m c ∗ strips c ∗ own c (wh d) fullShare (wv (hbmW m c) d) ∗ (∃ G : Vec F S1024x2048 .bf16, own c (xb b) fullShare G)
      -∗ tools m c)) := by
  unfold tools
  match b, d with
  | 0, 0 =>
    iintro ⟨Ha, Hs, Hw0, Hw1, Hx0, Hx1⟩
    isplitl [Ha]; · iexact Ha
    isplitl [Hs]; · iexact Hs
    isplitl [Hw0]; · iexact Hw0
    isplitl [Hx0]; · iexact Hx0
    iintro ⟨Ha, Hs, Hw0, Hx0⟩; iframe
  | 0, 1 =>
    iintro ⟨Ha, Hs, Hw0, Hw1, Hx0, Hx1⟩
    isplitl [Ha]; · iexact Ha
    isplitl [Hs]; · iexact Hs
    isplitl [Hw1]; · iexact Hw1
    isplitl [Hx0]; · iexact Hx0
    iintro ⟨Ha, Hs, Hw1, Hx0⟩; iframe
  | 1, 0 =>
    iintro ⟨Ha, Hs, Hw0, Hw1, Hx0, Hx1⟩
    isplitl [Ha]; · iexact Ha
    isplitl [Hs]; · iexact Hs
    isplitl [Hw0]; · iexact Hw0
    isplitl [Hx1]; · iexact Hx1
    iintro ⟨Ha, Hs, Hw0, Hx1⟩; iframe
  | 1, 1 =>
    iintro ⟨Ha, Hs, Hw0, Hw1, Hx0, Hx1⟩
    isplitl [Ha]; · iexact Ha
    isplitl [Hs]; · iexact Hs
    isplitl [Hw1]; · iexact Hw1
    isplitl [Hx1]; · iexact Hx1
    iintro ⟨Ha, Hs, Hw1, Hx1⟩; iframe

/-- One product of a step of reducing: its rows fetched, then multiplied. -/
theorem wp_prod (b d q r : Fin 2) (s : Fin 4) {O : CellTallies nD τ sig ℕ} (hO : Above 0 O) {k : PG F} :
    iprop(ctx m ∗ tools m c ∗ free c d q ∗ owing c O)
      ⊢ iprop((tools m c ∗ own c (buf d q) fullShare (prod m d r (chunkOf c d s) c) ∗ owing c O -∗ WP c k Q)
        -∗ WP c (loadX c b d r s <| dots b d q k) Q) := by
  unfold free
  iintro ⟨#Hctx, Ht, Hq, HO⟩ Hk
  ihave Ht' := (tools_open m c b d) $$ Ht
  icases Ht' with ⟨Ha, Hs, Hw, Hx, Ht⟩
  iapply (wp_loadX m c b d r s hO) $$ [Ha Hs Hx HO]
  · iframe; iexact Hctx
  iintro ⟨Ha, Hs, Hx, HO⟩
  iapply (wp_dots c b d q (xv (hbmX m c) (chunkOf c d s) r) (wv (hbmW m c) d)) $$ [Hx Hw Hq]
  · iframe
  iintro ⟨Hx, Hw, Hq⟩
  iapply Hk
  isplitl [Ht Ha Hs Hw Hx]
  · iapply Ht
    isplitl [Ha]; · iexact Ha
    isplitl [Hs]; · iexact Hs
    isplitl [Hw]; · iexact Hw
    iexists _; iexact Hx
  isplitl [Hq]; · iexact Hq
  iexact HO

/-- With the rows of a round's first products fetched. -/
def staged (r : Fin 2) : sProp 𝕄 :=
  iprop(args m c ∗ strips c ∗ own c (wh 0) fullShare (wv (hbmW m c) 0) ∗ own c (wh 1) fullShare (wv (hbmW m c) 1)
    ∗ own c (xb 0) fullShare (xv (hbmX m c) (chunkOf c 0 0) r) ∗ (∃ G : Vec F S1024x2048 .bf16, own c (xb 1) fullShare G))

theorem wp_stage (r : Fin 2) {O : CellTallies nD τ sig ℕ} (hO : Above 0 O) {k : PG F} :
    iprop(ctx m ∗ tools m c ∗ owing c O)
      ⊢ iprop((staged m c r ∗ owing c O -∗ WP c k Q) -∗ WP c (loadX c 0 0 r 0 k) Q) := by
  unfold tools staged
  iintro ⟨#Hctx, ⟨Ha, Hs, Hw0, Hw1, Hx0, Hx1⟩, HO⟩ Hk
  iapply (wp_loadX m c 0 0 r 0 hO) $$ [Ha Hs Hx0 HO]
  · iframe; iexact Hctx
  iintro ⟨Ha, Hs, Hx, HO⟩
  iapply Hk
  iframe

theorem unstage (r : Fin 2) : staged m c r ⊢ tools m c := by
  unfold tools staged
  iintro ⟨Ha, Hs, Hw0, Hw1, Hx0, Hx1⟩
  isplitl [Ha]; · iexact Ha
  isplitl [Hs]; · iexact Hs
  isplitl [Hw0]; · iexact Hw0
  isplitl [Hw1]; · iexact Hw1
  isplitl [Hx0]; · iexists _; iexact Hx0
  iexact Hx1

theorem chunk_first (c : Dev nD) (d : Fin 2) : chunkOf c 0 0 = chunkOf c d 0 := by revert c d; decide +kernel

theorem wp_first (d r : Fin 2) {k : PG F} :
    iprop(staged m c r ∗ free c d 0)
      ⊢ iprop((staged m c r ∗ own c (buf d 0) fullShare (acc m d r 0 c) -∗ WP c k Q) -∗ WP c (dots 0 d 0 k) Q) := by
  have h : acc m d r 0 c = pDot (xv (hbmX m c) (chunkOf c 0 0) r) (wv (hbmW m c) d) := by
    show prod m d r (chunkOf c d 0) c = _
    rw [chunk_first c d]; rfl
  rw [h]
  unfold staged free
  iintro ⟨⟨Ha, Hs, Hw0, Hw1, Hx, Hx1⟩, Hq⟩ Hk
  match d with
  | 0 =>
    iapply (wp_dots c 0 0 0 (xv (hbmX m c) (chunkOf c 0 0) r) (wv (hbmW m c) 0)) $$ [Hx Hw0 Hq]
    · iframe
    iintro ⟨Hx, Hw0, Hq⟩
    iapply Hk
    iframe
  | 1 =>
    iapply (wp_dots c 0 1 0 (xv (hbmX m c) (chunkOf c 0 0) r) (wv (hbmW m c) 1)) $$ [Hx Hw1 Hq]
    · iframe
    iintro ⟨Hx, Hw1, Hq⟩
    iapply Hk
    iframe

/-! ## Reducing -/

theorem wp_rsStep (r : Fin 2) {s : ℕ} (hs : s < 3) (s' : Fin 4) (hs' : s' = Fin.ofNat 4 (s + 1)) (p q : Fin 2) {n : ℕ}
    (hn : n = 6 * r.val + s) (hp : p = par n) {k : PG F} :
    iprop(ctx m ∗ tools m c ∗ own c (buf 0 p) fullShare (acc m 0 r s c) ∗ own c (buf 1 p) fullShare (acc m 1 r s c)
        ∗ free c 0 q ∗ free c 1 q ∗ Rdy c 0 n ∗ Rdy c 1 n ∗ owing c (owes2 c n n n n))
      ⊢ iprop((tools m c ∗ own c (buf 0 q) fullShare (acc m 0 r (s + 1) c) ∗ own c (buf 1 q) fullShare (acc m 1 r (s + 1) c)
            ∗ free c 0 p ∗ free c 1 p ∗ Idl c 0 n ∗ Idl c 1 n ∗ owing c (owes2 c (n + 1) (n + 1) (n + 1) (n + 1)) -∗ WP c k Q)
        -∗ WP c (rsStep c r s' p q k) Q) := by
  have hn11 : n < 11 := by have := r.isLt; omega
  have hm (d : Fin 2) (c : Dev nD) : acc m d r s c = Msg m d n c := by rw [hn, Msg_acc m d r hs]
  have ha (d : Fin 2) : acc m d r (s + 1) c = pAdd (prod m d r (chunkOf c d s') c) (Msg m d n (pv d c)) := by
    rw [← hm d (pv d c), hs']; rfl
  rw [ha 0, ha 1, hm 0 c, hm 1 c]
  unfold rsStep
  iintro ⟨#Hctx, Ht, Hb0, Hb1, Hq0, Hq1, Hr0, Hr1, HO⟩ Hk
  iapply (wp_sends m c p (n := n) (by omega) hp) $$ [Hb0 Hb1 Hr0 Hr1 HO]
  · iframe; iexact Hctx
  iintro ⟨Hb0, Hb1, Hf0, Hf1, HO⟩
  iapply (wp_prod m c 0 0 q r s' (O := owes2 c (n + 1) n (n + 1) n) (above2 c)) $$ [Ht Hq0 HO]
  · iframe; iexact Hctx
  iintro ⟨Ht, Hq0, HO⟩
  iapply (wp_prod m c 1 1 q r s' (O := owes2 c (n + 1) n (n + 1) n) (above2 c)) $$ [Ht Hq1 HO]
  · iframe; iexact Hctx
  iintro ⟨Ht, Hq1, HO⟩
  iapply (wp_add m c 0 p q hn11 hp (owe 1 c (n + 1) n) rfl (O₁ := owes2 c (n + 1) (n + 1) (n + 1) n) rfl (above2 c) (above2 c) _) $$ [Hf0 Hb0 Hq0 HO]
  · iframe; iexact Hctx
  iintro ⟨Hf0, Hb0, Hq0, HO⟩
  iapply (wp_add m c 1 p q hn11 hp (owe 0 c (n + 1) (n + 1)) (add_comm _ _) (O₁ := owes2 c (n + 1) (n + 1) (n + 1) (n + 1)) (add_comm _ _)
    (above2 c) (above2 c) _) $$ [Hf1 Hb1 Hq1 HO]
  · iframe; iexact Hctx
  iintro ⟨Hf1, Hb1, Hq1, HO⟩
  iapply Hk
  iframe

/-! ## Gathering -/

/-- A block of the result filled with what it is to hold. -/
def done (d r : Fin 2) (j : Fin 4) : sProp 𝕄 := own c (oSl c d r j) fullShare (gath m d r j.val c)

theorem wp_turn (d r p p' : Fin 2) (j j' : Fin 4) (X' : Vec F S1024x2048 .bf16) {O : CellTallies nD τ sig ℕ} (hO : Above 0 O) {k : PG F} :
    iprop(ctx m ∗ outFl c d r j (buf d p) fullShare.right (gath m d r j.val c) ∗ own c (buf d p) fullShare.left (gath m d r j.val c)
        ∗ own c (buf d p') fullShare.right X' ∗ hole c d r j' ∗ owing c O)
      ⊢ iprop((done m c d r j ∗ free c d p ∗ outFl c d r j' (buf d p') fullShare.right X' ∗ owing c O -∗ WP c k Q)
        -∗ WP c (wtOut c d r j (buf d p) (buf_whole d p) <| stOut c d r j' (buf d p') (buf_whole d p') k) Q) := by
  unfold done
  iintro ⟨#Hctx, Hf, Hl, Hr, Hh, HO⟩ Hk
  iapply (wp_wtOut m c d r j (buf d p) (buf_whole d p) (gath m d r j.val c) hO) $$ [Hf HO]
  · iframe; iexact Hctx
  iintro ⟨Hm, Hd, Hv, HO⟩
  iapply (wp_stOut c d r j' (buf d p') (buf_whole d p') X') $$ [Hr Hh Hv]
  · iframe
  iintro Hf
  iapply Hk
  isplitl [Hd]; · iexact Hd
  isplitl [Hl Hm]
  · iapply (to_free c d p (gath m d r j.val c)); iapply (join_buf c d p (gath m d r j.val c)); isplitl [Hl]; · iexact Hl
    iexact Hm
  isplitl [Hf]; · iexact Hf
  iexact HO

/-- A step of gathering: take over what comes, send it on, and store it once the store before it has ended. -/
theorem wp_seg (r : Fin 2) (j j' : Fin 4) (hj : j'.val = j.val + 1) (hj3 : j'.val < 3) (p q : Fin 2) {n : ℕ}
    (hn : n = 6 * r.val + 3 + j.val) (hq : q = par n) (hp : p = par (n + 1)) {k : PG F} :
    iprop(ctx m ∗ Fly c 0 n ∗ Fly c 1 n ∗ free c 0 p ∗ free c 1 p
        ∗ outFl c 0 r j (buf 0 q) fullShare.right (gath m 0 r j.val c) ∗ outFl c 1 r j (buf 1 q) fullShare.right (gath m 1 r j.val c)
        ∗ hole c 0 r j' ∗ hole c 1 r j' ∗ owing c (owes2 c (n + 1) n (n + 1) n))
      ⊢ iprop((Fly c 0 (n + 1) ∗ Fly c 1 (n + 1) ∗ free c 0 q ∗ free c 1 q
            ∗ outFl c 0 r j' (buf 0 p) fullShare.right (gath m 0 r j'.val c) ∗ outFl c 1 r j' (buf 1 p) fullShare.right (gath m 1 r j'.val c)
            ∗ done m c 0 r j ∗ done m c 1 r j ∗ owing c (owes2 c (n + 2) (n + 1) (n + 2) (n + 1)) -∗ WP c k Q)
        -∗ WP c (take c 0 q p <| take c 1 q p <| credits <| send c 0 p <| send c 1 p <|
            wtOut c 0 r j (buf 0 q) (buf_whole 0 q) <| stOut c 0 r j' (buf 0 p) (buf_whole 0 p) <|
            wtOut c 1 r j (buf 1 q) (buf_whole 1 q) <| stOut c 1 r j' (buf 1 p) (buf_whole 1 p) k) Q) := by
  have hn11 : n < 11 := by have := r.isLt; omega
  have hm (d : Fin 2) : Msg m d n c = gath m d r j.val c := by rw [hn, Msg_gath m d r (by omega)]
  have hm' (d : Fin 2) : Msg m d n (pv d c) = gath m d r j'.val c := by rw [hn, Msg_gath m d r (by omega), hj]; rfl
  have hm2 (d : Fin 2) : Msg m d (n + 1) c = gath m d r j'.val c := by
    rw [hn, Nat.add_assoc, ← hj, Msg_gath m d r hj3]
  iintro ⟨#Hctx, Hf0, Hf1, Hp0, Hp1, Ho0, Ho1, Hh0, Hh1, HO⟩ Hk
  have ht (k : PG F) := wp_takes m c q p (n := n) (by omega) hq (Q := Q) (k := k)
  rw [hm 0, hm 1, hm' 0, hm' 1] at ht
  iapply (ht _) $$ [Hf0 Hf1 Hp0 Hp1 HO]
  · iframe; iexact Hctx
  iintro ⟨Hi0, Hi1, Hl0, Hl1, Hb0, Hb1, HO⟩
  iapply (wp_credits m c (n := n) (by omega)) $$ [Hi0 Hi1 HO]
  · iframe; iexact Hctx
  iintro ⟨Hr0, Hr1, HO⟩
  have hs (k : PG F) := wp_sends m c p (n := n + 1) (by omega) hp (Q := Q) (k := k)
  rw [hm2 0, hm2 1] at hs
  iapply (hs _) $$ [Hb0 Hb1 Hr0 Hr1 HO]
  · iframe; iexact Hctx
  iintro ⟨Hb0, Hb1, Hf0, Hf1, HO⟩
  iapply (wp_turn m c 0 r q p j j' _ (O := owes2 c (n + 2) (n + 1) (n + 2) (n + 1)) (above2 c)) $$ [Ho0 Hl0 Hb0 Hh0 HO]
  · iframe; iexact Hctx
  iintro ⟨Hd0, Hq0, Ho0, HO⟩
  iapply (wp_turn m c 1 r q p j j' _ (O := owes2 c (n + 2) (n + 1) (n + 2) (n + 1)) (above2 c)) $$ [Ho1 Hl1 Hb1 Hh1 HO]
  · iframe; iexact Hctx
  iintro ⟨Hd1, Hq1, Ho1, HO⟩
  iapply Hk
  iframe

/-- The activation of an accumulator. -/
theorem wp_act (d p : Fin 2) (A : Vec F S1024x2048 .bf16) {k : PG F} :
    own c (buf d p) fullShare A ⊢ iprop((own c (buf d p) fullShare (pAct A) -∗ WP c k Q) -∗ WP c (act d p k) Q) := by
  unfold act
  iintro Hb Hk
  iapply (wp_ld c (buf d p) A) $$ Hb
  iintro Hb
  iapply (wp_st c (buf d p) (buf_whole d p) (pAct A)) $$ [Hb]
  · iexists A; iexact Hb
  iexact Hk

/-- The semaphore of direction `d`'s stores, at rest. -/
def stV (d : Fin 2) : sProp 𝕄 := semVal ((c : Thread nD τ), SemLoc.dma (storeS d)) 0

/-- A round, from its first products to the third blocks' stores. -/
theorem wp_half (r : Fin 2) {k : PG F} :
    iprop(ctx m ∗ tools m c ∗ own c (buf 0 0) fullShare (acc m 0 r 0 c) ∗ own c (buf 1 0) fullShare (acc m 1 r 0 c)
        ∗ free c 0 1 ∗ free c 1 1 ∗ Rdy c 0 (6 * r.val) ∗ Rdy c 1 (6 * r.val)
        ∗ (hole c 0 r 0 ∗ hole c 0 r 1 ∗ hole c 0 r 2 ∗ stV c 0) ∗ (hole c 1 r 0 ∗ hole c 1 r 1 ∗ hole c 1 r 2 ∗ stV c 1)
        ∗ owing c (owes2 c (6 * r.val) (6 * r.val) (6 * r.val) (6 * r.val)))
      ⊢ iprop((tools m c ∗ free c 0 0 ∗ free c 1 0 ∗ Fly c 0 (6 * r.val + 5) ∗ Fly c 1 (6 * r.val + 5)
            ∗ (done m c 0 r 0 ∗ done m c 0 r 1 ∗ outFl c 0 r 2 (buf 0 1) fullShare.right (gath m 0 r 2 c))
            ∗ (done m c 1 r 0 ∗ done m c 1 r 1 ∗ outFl c 1 r 2 (buf 1 1) fullShare.right (gath m 1 r 2 c))
            ∗ owing c (owes2 c (6 * r.val + 6) (6 * r.val + 5) (6 * r.val + 6) (6 * r.val + 5)) -∗ WP c k Q)
        -∗ WP c (half c r k) Q) := by
  have hr := r.isLt
  have hm (d : Fin 2) : Msg m d (6 * r.val + 3) c = gath m d r 0 c := Msg_gath m d r (s := 0) (by omega) c
  have hp (n : ℕ) : par (6 * r.val + n) = par n := Fin.ext (by show (6 * r.val + n) % 2 = n % 2; omega)
  unfold half stV
  iintro ⟨#Hctx, Ht, Hb0, Hb1, Hq0, Hq1, Hr0, Hr1, ⟨Hh00, Hh01, Hh02, Hv0⟩, ⟨Hh10, Hh11, Hh12, Hv1⟩, HO⟩ Hk
  iapply (wp_rsStep m c r (s := 0) (by omega) 1 rfl 0 1 (n := 6 * r.val) rfl (hp 0).symm) $$ [Ht Hb0 Hb1 Hq0 Hq1 Hr0 Hr1 HO]
  · iframe; iexact Hctx
  iintro ⟨Ht, Hb0, Hb1, Hq0, Hq1, Hr0, Hr1, HO⟩
  iapply (wp_credits m c (n := 6 * r.val) (by omega)) $$ [Hr0 Hr1 HO]
  · iframe; iexact Hctx
  iintro ⟨Hr0, Hr1, HO⟩
  iapply (wp_rsStep m c r (s := 1) (by omega) 2 rfl 1 0 (n := 6 * r.val + 1) rfl (hp 1).symm) $$ [Ht Hb0 Hb1 Hq0 Hq1 Hr0 Hr1 HO]
  · iframe; iexact Hctx
  iintro ⟨Ht, Hb0, Hb1, Hq0, Hq1, Hr0, Hr1, HO⟩
  iapply (wp_credits m c (n := 6 * r.val + 1) (by omega)) $$ [Hr0 Hr1 HO]
  · iframe; iexact Hctx
  iintro ⟨Hr0, Hr1, HO⟩
  iapply (wp_rsStep m c r (s := 2) (by omega) 3 rfl 0 1 (n := 6 * r.val + 2) rfl (hp 2).symm) $$ [Ht Hb0 Hb1 Hq0 Hq1 Hr0 Hr1 HO]
  · iframe; iexact Hctx
  iintro ⟨Ht, Hb0, Hb1, Hq0, Hq1, Hr0, Hr1, HO⟩
  iapply (wp_act c 0 1 _) $$ Hb0
  iintro Hb0
  iapply (wp_act c 1 1 _) $$ Hb1
  iintro Hb1
  iapply (wp_credits m c (n := 6 * r.val + 2) (by omega)) $$ [Hr0 Hr1 HO]
  · iframe; iexact Hctx
  iintro ⟨Hr0, Hr1, HO⟩
  have hs (k : PG F) := wp_sends m c 1 (n := 6 * r.val + 3) (by omega) (hp 3).symm (Q := Q) (k := k)
  rw [hm 0, hm 1] at hs
  iapply (hs _) $$ [Hb0 Hb1 Hr0 Hr1 HO]
  · isplitr; · iexact Hctx
    isplitl [Hb0]; · iexact Hb0
    isplitl [Hb1]; · iexact Hb1
    iframe
  iintro ⟨Hb0, Hb1, Hf0, Hf1, HO⟩
  iapply (wp_stOut c 0 r 0 (buf 0 1) (buf_whole 0 1) (gath m 0 r 0 c)) $$ [Hb0 Hh00 Hv0]
  · iframe
  iintro Ho0
  iapply (wp_stOut c 1 r 0 (buf 1 1) (buf_whole 1 1) (gath m 1 r 0 c)) $$ [Hb1 Hh10 Hv1]
  · iframe
  iintro Ho1
  iapply (wp_seg m c r 0 1 rfl (by decide) 0 1 (n := 6 * r.val + 3) rfl (hp 3).symm (hp 4).symm) $$ [Hf0 Hf1 Hq0 Hq1 Ho0 Ho1 Hh01 Hh11 HO]
  · isplitr; · iexact Hctx
    isplitl [Hf0]; · iexact Hf0
    isplitl [Hf1]; · iexact Hf1
    isplitl [Hq0]; · iexact Hq0
    isplitl [Hq1]; · iexact Hq1
    isplitl [Ho0]; · iexact Ho0
    isplitl [Ho1]; · iexact Ho1
    iframe
  iintro ⟨Hf0, Hf1, Hq0, Hq1, Ho0, Ho1, Hd00, Hd10, HO⟩
  iapply (wp_seg m c r 1 2 rfl (by decide) 1 0 (n := 6 * r.val + 4) rfl (hp 4).symm (hp 5).symm) $$ [Hf0 Hf1 Hq0 Hq1 Ho0 Ho1 Hh02 Hh12 HO]
  · isplitr; · iexact Hctx
    isplitl [Hf0]; · iexact Hf0
    isplitl [Hf1]; · iexact Hf1
    isplitl [Hq0]; · iexact Hq0
    isplitl [Hq1]; · iexact Hq1
    isplitl [Ho0]; · iexact Ho0
    isplitl [Ho1]; · iexact Ho1
    iframe
  iintro ⟨Hf0, Hf1, Hq0, Hq1, Ho0, Ho1, Hd01, Hd11, HO⟩
  iapply Hk
  isplitl [Ht]; · iexact Ht
  isplitl [Hq0]; · iexact Hq0
  isplitl [Hq1]; · iexact Hq1
  isplitl [Hf0]; · iexact Hf0
  isplitl [Hf1]; · iexact Hf1
  isplitl [Hd00 Hd01 Ho0]
  · isplitl [Hd00]; · iexact Hd00
    isplitl [Hd01]; · iexact Hd01
    iexact Ho0
  isplitl [Hd10 Hd11 Ho1]
  · isplitl [Hd10]; · iexact Hd10
    isplitl [Hd11]; · iexact Hd11
    iexact Ho1
  iexact HO

/-! ## The ends of the rounds -/

/-- A round's last block begins to be stored, straight from where it arrived. -/
theorem wp_lastSt (d r : Fin 2) {k : PG F} :
    iprop(own c (work d) fullShare (Msg m d (6 * r.val + 5) (pv d c)) ∗ hole c d r 3 ∗ stV c d)
      ⊢ iprop((outFl c d r 3 (work d) fullShare (gath m d r 3 c) -∗ WP c k Q)
        -∗ WP c (stOut c d r 3 (work d) (work_whole d) k) Q) := by
  have h : Msg m d (6 * r.val + 5) (pv d c) = gath m d r 3 c := Msg_gath m d r (s := 2) (by omega) (pv d c)
  rw [h]
  exact wp_stOut c d r 3 (work d) (work_whole d) (gath m d r 3 c)

theorem wp_wt (d r : Fin 2) (j : Fin 4) (M : Blk) (h : M.IsWhole) (q : PosShare TreeShare) {O : CellTallies nD τ sig ℕ} (hO : Above 0 O) {k : PG F} :
    iprop(ctx m ∗ outFl c d r j M q (gath m d r j.val c) ∗ owing c O)
      ⊢ iprop((own c M q (gath m d r j.val c) ∗ done m c d r j ∗ stV c d ∗ owing c O -∗ WP c k Q)
        -∗ WP c (wtOut c d r j M h k) Q) :=
  wp_wtOut m c d r j M h (gath m d r j.val c) hO

/-- The accumulator that the last send left from, whole again. -/
theorem join_last (d r : Fin 2) :
    iprop(own c (buf d 1) fullShare.left (Msg m d (6 * r.val + 5) c) ∗ own c (buf d 1) fullShare.right (gath m d r 2 c)) ⊢ free c d 1 := by
  have h : Msg m d (6 * r.val + 5) c = gath m d r 2 c := Msg_gath m d r (s := 2) (by omega) c
  rw [h]
  exact (join_buf c d 1 _).trans (to_free c d 1 _)

theorem wp_fin0_dir (d : Fin 2) {O₀ : CellTallies nD τ sig ℕ} (O : CellTallies nD τ sig ℕ)
    (hO : O₀ = owe d c 6 5 + O) {O₁ : CellTallies nD τ sig ℕ} (hO₁ : owe d c 6 6 + O = O₁)
    (h0 : Above 0 O₀) (h1 : Above 12 O₀) {k : PG F} :
    iprop(ctx m ∗ Fly c d 5 ∗ own c (buf d 1) fullShare.right (gath m d 0 2 c) ∗ hole c d 0 3 ∗ stV c d ∗ owing c O₀)
      ⊢ iprop((Idl c d 5 ∗ free c d 1 ∗ done m c d 0 3 ∗ stV c d ∗ owing c O₁ -∗ WP c k Q)
        -∗ WP c (waitXfer d 1 <| stOut c d 0 3 (work d) (work_whole d) <| wtOut c d 0 3 (work d) (work_whole d) <| grant c d k) Q) := by
  iintro ⟨#Hctx, Hf, Hr, Hh, Hv, HO⟩ Hk
  iapply (wp_recv m c d 1 (n := 5) (by decide) rfl h0 h1) $$ [Hf HO]
  · iframe; iexact Hctx
  iintro ⟨Hf, Hl, Hw, HO⟩
  iapply (wp_lastSt m c d 0) $$ [Hw Hh Hv]
  · isplitl [Hw]; · iexact Hw
    iframe
  iintro Ho
  iapply (wp_wt m c d 0 3 (work d) (work_whole d) fullShare h0) $$ [Ho HO]
  · isplitr; · iexact Hctx
    isplitl [Ho]; · iexact Ho
    iexact HO
  iintro ⟨Hw, Hd, Hv, HO⟩
  iapply (wp_back m c d (n := 5) (by decide) O hO hO₁ _) $$ [Hw Hf HO]
  · isplitr; · iexact Hctx
    isplitl [Hw]; · iexact Hw
    isplitl [Hf]; · iexact Hf
    iexact HO
  iintro ⟨Hf, HO⟩
  iapply Hk
  isplitl [Hf]; · iexact Hf
  isplitl [Hl Hr]
  · iapply (join_last m c d 0)
    isplitl [Hl]; · iexact Hl
    iexact Hr
  isplitl [Hd]; · iexact Hd
  isplitl [Hv]; · iexact Hv
  iexact HO

theorem wp_fin0 {k : PG F} :
    iprop(ctx m ∗ tools m c ∗ (free c 0 0 ∗ Fly c 0 5 ∗ outFl c 0 0 2 (buf 0 1) fullShare.right (gath m 0 0 2 c) ∗ hole c 0 0 3)
        ∗ (free c 1 0 ∗ Fly c 1 5 ∗ outFl c 1 0 2 (buf 1 1) fullShare.right (gath m 1 0 2 c) ∗ hole c 1 0 3)
        ∗ owing c (owes2 c 6 5 6 5))
      ⊢ iprop((tools m c ∗ (own c (buf 0 0) fullShare (acc m 0 1 0 c) ∗ free c 0 1 ∗ Idl c 0 5 ∗ done m c 0 0 2 ∗ done m c 0 0 3 ∗ stV c 0)
            ∗ (own c (buf 1 0) fullShare (acc m 1 1 0 c) ∗ free c 1 1 ∗ Idl c 1 5 ∗ done m c 1 0 2 ∗ done m c 1 0 3 ∗ stV c 1)
            ∗ owing c (owes2 c 6 6 6 6) -∗ WP c k Q)
        -∗ WP c (fin0 c k) Q) := by
  unfold fin0
  iintro ⟨#Hctx, Ht, ⟨Hb0, Hf0, Ho0, Hh0⟩, ⟨Hb1, Hf1, Ho1, Hh1⟩, HO⟩ Hk
  iapply (wp_stage m c 1 (O := owes2 c 6 5 6 5) (above2 c)) $$ [Ht HO]
  · iframe; iexact Hctx
  iintro ⟨Ht, HO⟩
  iapply (wp_wt m c 0 0 2 (buf 0 1) (buf_whole 0 1) fullShare.right (O := owes2 c 6 5 6 5) (above2 c)) $$ [Ho0 HO]
  · isplitr; · iexact Hctx
    isplitl [Ho0]; · iexact Ho0
    iexact HO
  iintro ⟨Hr0, Hd0, Hv0, HO⟩
  iapply (wp_first m c 0 1) $$ [Ht Hb0]
  · isplitl [Ht]; · iexact Ht
    iexact Hb0
  iintro ⟨Ht, Hb0⟩
  iapply (wp_wt m c 1 0 2 (buf 1 1) (buf_whole 1 1) fullShare.right (O := owes2 c 6 5 6 5) (above2 c)) $$ [Ho1 HO]
  · isplitr; · iexact Hctx
    isplitl [Ho1]; · iexact Ho1
    iexact HO
  iintro ⟨Hr1, Hd1, Hv1, HO⟩
  iapply (wp_first m c 1 1) $$ [Ht Hb1]
  · isplitl [Ht]; · iexact Ht
    iexact Hb1
  iintro ⟨Ht, Hb1⟩
  iapply (wp_fin0_dir m c 0 (owe 1 c 6 5) rfl (O₁ := owes2 c 6 6 6 5) rfl (above2 c) (above2 c)) $$ [Hf0 Hr0 Hh0 Hv0 HO]
  · isplitr; · iexact Hctx
    isplitl [Hf0]; · iexact Hf0
    isplitl [Hr0]; · iexact Hr0
    isplitl [Hh0]; · iexact Hh0
    isplitl [Hv0]; · iexact Hv0
    iexact HO
  iintro ⟨Hf0, Hq0, He0, Hv0, HO⟩
  iapply (wp_fin0_dir m c 1 (owe 0 c 6 6) (add_comm _ _) (O₁ := owes2 c 6 6 6 6) (add_comm _ _) (above2 c) (above2 c)) $$ [Hf1 Hr1 Hh1 Hv1 HO]
  · isplitr; · iexact Hctx
    isplitl [Hf1]; · iexact Hf1
    isplitl [Hr1]; · iexact Hr1
    isplitl [Hh1]; · iexact Hh1
    isplitl [Hv1]; · iexact Hv1
    iexact HO
  iintro ⟨Hf1, Hq1, He1, Hv1, HO⟩
  iapply Hk
  isplitl [Ht]; · iapply (unstage m c 1); iexact Ht
  iframe

/-- The last arrival in a direction, and the last block's store begun. -/
theorem wp_fin1_dir (d : Fin 2) {O : CellTallies nD τ sig ℕ} (h0 : Above 0 O) (h1 : Above 24 O) {k : PG F} :
    iprop(ctx m ∗ Fly c d 11 ∗ outFl c d 1 2 (buf d 1) fullShare.right (gath m d 1 2 c) ∗ hole c d 1 3 ∗ owing c O)
      ⊢ iprop((Got c d 11 ∗ free c d 1 ∗ done m c d 1 2 ∗ outFl c d 1 3 (work d) fullShare (gath m d 1 3 c) ∗ owing c O -∗ WP c k Q)
        -∗ WP c (waitXfer d 1 <| wtOut c d 1 2 (buf d 1) (buf_whole d 1) <| stOut c d 1 3 (work d) (work_whole d) k) Q) := by
  iintro ⟨#Hctx, Hf, Ho, Hh, HO⟩ Hk
  iapply (wp_recv m c d 1 (n := 11) (by decide) rfl h0 h1) $$ [Hf HO]
  · iframe; iexact Hctx
  iintro ⟨Hf, Hl, Hw, HO⟩
  iapply (wp_wt m c d 1 2 (buf d 1) (buf_whole d 1) fullShare.right h0) $$ [Ho HO]
  · isplitr; · iexact Hctx
    isplitl [Ho]; · iexact Ho
    iexact HO
  iintro ⟨Hr, Hd, Hv, HO⟩
  iapply (wp_lastSt m c d 1) $$ [Hw Hh Hv]
  · isplitl [Hw]; · iexact Hw
    iframe
  iintro Ho
  iapply Hk
  isplitl [Hf]; · iexact Hf
  isplitl [Hl Hr]
  · iapply (join_last m c d 1)
    isplitl [Hl]; · iexact Hl
    iexact Hr
  isplitl [Hd]; · iexact Hd
  isplitl [Ho]; · iexact Ho
  iexact HO

/-- A direction once all its blocks have come and been stored. -/
def Fin1 (d : Fin 2) : sProp 𝕄 :=
  iprop(Got c d 11 ∗ free c d 1 ∗ slot d c ∗ stV c d ∗ done m c d 1 2 ∗ done m c d 1 3)

theorem wp_fin1 :
    iprop(ctx m ∗ (Fly c 0 11 ∗ outFl c 0 1 2 (buf 0 1) fullShare.right (gath m 0 1 2 c) ∗ hole c 0 1 3)
        ∗ (Fly c 1 11 ∗ outFl c 1 1 2 (buf 1 1) fullShare.right (gath m 1 1 2 c) ∗ hole c 1 1 3)
        ∗ owing c (owes2 c 12 11 12 11))
      ⊢ iprop((Fin1 m c 0 ∗ Fin1 m c 1 ∗ owing c (owes2 c 12 11 12 11) -∗ Q ⟨⟩) -∗ WP c (fin1 c) Q) := by
  unfold fin1 Fin1 slot
  iintro ⟨#Hctx, ⟨Hf0, Ho0, Hh0⟩, ⟨Hf1, Ho1, Hh1⟩, HO⟩ Hk
  iapply (wp_fin1_dir m c 0 (O := owes2 c 12 11 12 11) (above2 c) (above2 c)) $$ [Hf0 Ho0 Hh0 HO]
  · iframe; iexact Hctx
  iintro ⟨Hf0, Hb0, Hd0, Ho0, HO⟩
  iapply (wp_fin1_dir m c 1 (O := owes2 c 12 11 12 11) (above2 c) (above2 c)) $$ [Hf1 Ho1 Hh1 HO]
  · iframe; iexact Hctx
  iintro ⟨Hf1, Hb1, Hd1, Ho1, HO⟩
  iapply (wp_wt m c 0 1 3 (work 0) (work_whole 0) fullShare (O := owes2 c 12 11 12 11) (above2 c)) $$ [Ho0 HO]
  · isplitr; · iexact Hctx
    isplitl [Ho0]; · iexact Ho0
    iexact HO
  iintro ⟨Hw0, He0, Hv0, HO⟩
  iapply (wp_wt m c 1 1 3 (work 1) (work_whole 1) fullShare (O := owes2 c 12 11 12 11) (above2 c)) $$ [Ho1 HO]
  · isplitr; · iexact Hctx
    isplitl [Ho1]; · iexact Ho1
    iexact HO
  iintro ⟨Hw1, He1, Hv1, HO⟩
  iapply (le_wp_ret)
  iapply Hk
  isplitl [Hf0 Hb0 Hw0 Hv0 Hd0 He0]
  · iframe; iexists _; iexact Hw0
  isplitl [Hf1 Hb1 Hw1 Hv1 Hd1 He1]
  · iframe; iexists _; iexact Hw1
  iexact HO

/-! ## The body -/

/-- What a device begins one direction with. -/
def Ini (d : Fin 2) : sProp 𝕄 :=
  iprop((slot d c ∗ reached ER (cell c (.rcv d)) 0 ∗ dutyTok ER (cell (pv d c) .bar) 0 d ∗ reached ER (cell (pv d c) .bar) 0)
    ∗ (reached ER (cell c (.crd d)) 0 ∗ reached ER (cell c (.snd d)) 0 ∗ outT d c 0 ∗ inT d c 0 ∗ crT d c 0 ∗ grT d c 0)
    ∗ (free c d 0 ∗ free c d 1 ∗ stV c d)
    ∗ (hole c d 0 0 ∗ hole c d 0 1 ∗ hole c d 0 2 ∗ hole c d 0 3) ∗ hole c d 1 0 ∗ hole c d 1 1 ∗ hole c d 1 2 ∗ hole c d 1 3)

/-- What it ends with. -/
def Fini (d : Fin 2) : sProp 𝕄 :=
  iprop(Got c d 11 ∗ (free c d 0 ∗ free c d 1 ∗ slot d c ∗ stV c d)
    ∗ (done m c d 0 0 ∗ done m c d 0 1 ∗ done m c d 0 2 ∗ done m c d 0 3) ∗ done m c d 1 0 ∗ done m c d 1 1 ∗ done m c d 1 2 ∗ done m c d 1 3)

theorem wp_enter (d : Fin 2) {O₀ : CellTallies nD τ sig ℕ} (O : CellTallies nD τ sig ℕ) (hO : O₀ = O + tallyAt (cell (pv d c) .bar) 0 1)
    {f : PUnit → PG F} :
    iprop(ctx m ∗ owing c O₀ ∗ slot d c ∗ reached ER (cell c (.rcv d)) 0 ∗ dutyTok ER (cell (pv d c) .bar) 0 d ∗ reached ER (cell (pv d c) .bar) 0)
      ⊢ iprop((owing c O -∗ WP c (f ⟨⟩) Q) -∗ WP c (.op (.semSignal (pv d c : Thread nD τ) barS (1#32).toInt) f) Q) := by
  have hl : load m (pv d c) .bar 0 d = iprop(slot d c ∗ reached ER (cell c (.rcv d)) 0) := by
    show perm d (pv d c) 0 = _
    unfold perm; rw [nx_pv]
  have h := wp_pay m c (pv d c) .bar barS rfl (n := 0) (by decide) d (Finset.mem_univ _) rfl 0 O hO (Q := Q) (f := f)
  rw [hl] at h
  iintro ⟨#Hctx, HO, Hs, Hr, Ht, Hq⟩
  iapply h
  isplitr; · iexact Hctx
  isplitl [HO]; · iexact HO
  isplitl [Ht]; · iexact Ht
  isplitl [Hs Hr]
  · isplitl [Hs]; · iexact Hs
    iexact Hr
  iexact Hq

/-- Once both neighbours have signalled, leave for the first sends. -/
theorem wp_bar {f : PUnit → PG F} :
    iprop(ctx m ∗ cred (tallyAt (cell c .bar) 0 2) ∗ owing c (owes2 c 0 0 0 0) ∗ atPos ER (cell c .bar) 0 ∅ 0)
      ⊢ iprop((owing c (owes2 c 0 0 0 0) ∗ atPos ER (cell c .bar) 1 ∅ 0 ∗ perm 0 c 0 ∗ perm 1 c 0 -∗ WP c (f ⟨⟩) Q)
        -∗ WP c (.op (.semWait barS (2#32).toInt) f) Q) := by
  have hl : bigSep (duty .bar) (fun d => load m c .bar 0 d) = iprop(perm 0 c 0 ∗ perm 1 c 0) := by
    show bigSep (Finset.univ : Finset (Fin 2)) (fun d => perm d c 0) = _
    rw [show (Finset.univ : Finset (Fin 2)) = {0, 1} from rfl, bigSep_insert (by decide), bigSep_singleton]; rfl
  iintro ⟨#Hctx, Hc, HO, Hat⟩ Hk
  iapply (wp_wait m c .bar (n := 0) (by decide) (wpE_semWait_eq 𝒱₀ (c : Thread nD τ) none Set.univ)
    (v := 2) rfl 0 (by decide) (O := owes2 c 0 0 0 0) (above2 c (cut := 1))) $$ [Hat Hc HO]
  · isplitr; · iexact Hctx
    isplitl [Hc]; · iexact Hc
    isplitl [HO]; · iexact HO
    iexact Hat
  rw [hl]
  iintro ⟨HO, Hat, -, Hp0, Hp1⟩
  iapply Hk
  iframe

/-- The whole body. -/
theorem wp_body :
    iprop(ctx m ∗ (args m c ∗ strips c ∗ (∃ G : Vec F S2048x2048 .bf16, own c (wh 0) fullShare G) ∗ (∃ G : Vec F S2048x2048 .bf16, own c (wh 1) fullShare G)
          ∗ (∃ G : Vec F S1024x2048 .bf16, own c (xb 0) fullShare G) ∗ (∃ G : Vec F S1024x2048 .bf16, own c (xb 1) fullShare G))
        ∗ Ini c 0 ∗ Ini c 1 ∗ (cred (tallyAt (cell c .bar) 0 2) ∗ atPos ER (cell c .bar) 0 ∅ 0)
        ∗ owing c ((owes2 c 0 0 0 0 + tallyAt (cell (pv 1 c) .bar) 0 1) + tallyAt (cell (pv 0 c) .bar) 0 1))
      ⊢ iprop((tools m c ∗ Fini m c 0 ∗ Fini m c 1 ∗ atPos ER (cell c .bar) 1 ∅ 0 ∗ owing c 0 -∗ Q ⟨⟩) -∗ WP c (body c) Q) := by
  have hend : owes2 c 12 11 12 11 = 0 := by show owe 0 c 12 11 + owe 1 c 12 11 = 0; rw [owe_end, owe_end, add_zero]
  unfold body Ini Fini
  iintro ⟨#Hctx, ⟨Ha, Hs, Hw0, Hw1, Hx0, Hx1⟩, ⟨⟨Hn0, Hnr0, Hnt0, Hnq0⟩, ⟨Hr0, Hi0⟩, ⟨Hb0, Hq0, Hv0⟩, ⟨H000, H001, H002, H003⟩, H010, H011, H012, H013⟩,
    ⟨⟨Hn1, Hnr1, Hnt1, Hnq1⟩, ⟨Hr1, Hi1⟩, ⟨Hb1, Hq1, Hv1⟩, ⟨H100, H101, H102, H103⟩, H110, H111, H112, H113⟩, ⟨Hcb, Hab⟩, HO⟩ Hk
  iapply (wp_enter m c 0 (owes2 c 0 0 0 0 + tallyAt (cell (pv 1 c) .bar) 0 1) rfl) $$ [HO Hn0 Hnr0 Hnt0 Hnq0]
  · iframe; iexact Hctx
  iintro HO
  iapply (wp_enter m c 1 (owes2 c 0 0 0 0) rfl) $$ [HO Hn1 Hnr1 Hnt1 Hnq1]
  · iframe; iexact Hctx
  iintro HO
  iapply (wp_loadW m c 0 (O := owes2 c 0 0 0 0) (above2 c)) $$ [Ha Hs Hw0 HO]
  · iframe; iexact Hctx
  iintro ⟨Ha, Hs, Hw0, HO⟩
  iapply (wp_loadW m c 1 (O := owes2 c 0 0 0 0) (above2 c)) $$ [Ha Hs Hw1 HO]
  · iframe; iexact Hctx
  iintro ⟨Ha, Hs, Hw1, HO⟩
  iapply (wp_stage m c 0 (O := owes2 c 0 0 0 0) (above2 c)) $$ [Ha Hs Hw0 Hw1 Hx0 Hx1 HO]
  · unfold tools; iframe; iexact Hctx
  iintro ⟨Ht, HO⟩
  iapply (wp_first m c 0 0) $$ [Ht Hb0]
  · iframe
  iintro ⟨Ht, Hb0⟩
  iapply (wp_first m c 1 0) $$ [Ht Hb1]
  · iframe
  iintro ⟨Ht, Hb1⟩
  iapply (wp_bar m c) $$ [Hcb Hab HO]
  · iframe; iexact Hctx
  iintro ⟨HO, Hab, Hp0, Hp1⟩
  iapply (wp_half m c 0) $$ [Ht Hb0 Hb1 Hq0 Hq1 Hp0 Hr0 Hi0 Hp1 Hr1 Hi1 H000 H001 H002 Hv0 H100 H101 H102 Hv1 HO]
  · unfold Rdy
    isplitr; · iexact Hctx
    isplitl [Ht]; · iapply (unstage m c 0); iexact Ht
    isplitl [Hb0]; · iexact Hb0
    isplitl [Hb1]; · iexact Hb1
    isplitl [Hq0]; · iexact Hq0
    isplitl [Hq1]; · iexact Hq1
    isplitl [Hp0 Hr0 Hi0]
    · isplitl [Hp0]; · iexact Hp0
      isplitl [Hr0]; · iexact Hr0
      iexact Hi0
    isplitl [Hp1 Hr1 Hi1]
    · isplitl [Hp1]; · iexact Hp1
      isplitl [Hr1]; · iexact Hr1
      iexact Hi1
    isplitl [H000 H001 H002 Hv0]; · iframe
    isplitl [H100 H101 H102 Hv1]; · iframe
    iexact HO
  iintro ⟨Ht, Hb0, Hb1, Hf0, Hf1, ⟨H000, H001, Ho0⟩, ⟨H100, H101, Ho1⟩, HO⟩
  iapply (wp_fin0 m c) $$ [Ht Hb0 Hf0 Ho0 H003 Hb1 Hf1 Ho1 H103 HO]
  · isplitr; · iexact Hctx
    isplitl [Ht]; · iexact Ht
    isplitl [Hb0 Hf0 Ho0 H003]
    · isplitl [Hb0]; · iexact Hb0
      isplitl [Hf0]; · iexact Hf0
      isplitl [Ho0]; · iexact Ho0
      iexact H003
    isplitl [Hb1 Hf1 Ho1 H103]
    · isplitl [Hb1]; · iexact Hb1
      isplitl [Hf1]; · iexact Hf1
      isplitl [Ho1]; · iexact Ho1
      iexact H103
    iexact HO
  iintro ⟨Ht, ⟨Hb0, Hq0, Hi0, H002, H003, Hv0⟩, ⟨Hb1, Hq1, Hi1, H102, H103, Hv1⟩, HO⟩
  iapply (wp_credits m c (n := 5) (by decide)) $$ [Hi0 Hi1 HO]
  · isplitr; · iexact Hctx
    isplitl [Hi0]; · iexact Hi0
    isplitl [Hi1]; · iexact Hi1
    iexact HO
  iintro ⟨Hr0, Hr1, HO⟩
  iapply (wp_half m c 1) $$ [Ht Hb0 Hb1 Hq0 Hq1 Hr0 Hr1 H010 H011 H012 Hv0 H110 H111 H112 Hv1 HO]
  · isplitr; · iexact Hctx
    isplitl [Ht]; · iexact Ht
    isplitl [Hb0]; · iexact Hb0
    isplitl [Hb1]; · iexact Hb1
    isplitl [Hq0]; · iexact Hq0
    isplitl [Hq1]; · iexact Hq1
    isplitl [Hr0]; · iexact Hr0
    isplitl [Hr1]; · iexact Hr1
    isplitl [H010 H011 H012 Hv0]; · iframe
    isplitl [H110 H111 H112 Hv1]; · iframe
    iexact HO
  iintro ⟨Ht, Hb0, Hb1, Hf0, Hf1, ⟨H010, H011, Ho0⟩, ⟨H110, H111, Ho1⟩, HO⟩
  iapply (wp_fin1 m c) $$ [Hf0 Ho0 H013 Hf1 Ho1 H113 HO]
  · isplitr; · iexact Hctx
    isplitl [Hf0 Ho0 H013]
    · isplitl [Hf0]; · iexact Hf0
      isplitl [Ho0]; · iexact Ho0
      iexact H013
    isplitl [Hf1 Ho1 H113]
    · isplitl [Hf1]; · iexact Hf1
      isplitl [Ho1]; · iexact Ho1
      iexact H113
    iexact HO
  unfold Fin1
  rw [hend]
  iintro ⟨⟨Hf0, Hq0, Hn0, Hv0, H012, H013⟩, ⟨Hf1, Hq1, Hn1, Hv1, H112, H113⟩, HO⟩
  iapply Hk
  isplitl [Ht]; · iexact Ht
  isplitl [Hf0 Hb0 Hq0 Hn0 Hv0 H000 H001 H002 H003 H010 H011 H012 H013]; · iframe
  isplitl [Hf1 Hb1 Hq1 Hn1 Hv1 H100 H101 H102 H103 H110 H111 H112 H113]; · iframe
  isplitl [Hab]; · iexact Hab
  iexact HO

end Cert.KernelIdeal.Ring

end
-- ==== Proof.Fund.lean ====
module

public import proofs.«01_k».proof.Proof.Body

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The protocol's resources, minted -/

/-- Every protocol cell of every device. -/
def allCells : Finset (GSem nD τ sig) := Finset.univ.map ⟨fun ck : Dev nD × Kd => cell ck.1 ck.2, cell_injective⟩

/-- The payment of cell `x.1`'s round and payer `x.2`. -/
def tokAt (x : (Dev nD × Kd) × Fin 12 × Fin 2) : GSem nD τ sig × ℕ × Fin 2 := (cell x.1.1 x.1.2, x.2.1.val, x.2.2)

theorem tokAt_injective : Function.Injective tokAt := by
  rintro ⟨ck, i, d⟩ ⟨ck', i', d'⟩ h
  have h1 : ck = ck' := cell_injective (congrArg Prod.fst h)
  have h2 : i = i' := Fin.ext (congrArg (fun y : GSem nD τ sig × ℕ × Fin 2 => y.2.1) h)
  have h3 : d = d' := congrArg (fun y : GSem nD τ sig × ℕ × Fin 2 => y.2.2) h
  rw [h1, h2, h3]

/-- Twelve rounds of every cell and both payers: more than is ever paid. -/
def allToks : Finset (GSem nD τ sig × ℕ × Fin 2) := Finset.univ.map ⟨tokAt, tokAt_injective⟩

def u₀ : UU :=
  (initOf (Pipeline.cells cfgs cellOf_inj) (Pipeline.launchToks cfgs cellOf_inj), (initOf allCells allToks, 1))

/-- The payments a cell of kind `k` ever takes. -/
def toks (c : Dev nD) (k : Kd) : sProp 𝕄 :=
  bigSep (Finset.Ico 0 (rounds k)) fun i => bigSep (duty k) fun d => dutyTok ER (cell c k) i d

/-- What a device is dealt for its own cells. -/
def G (c : Dev nD) : sProp 𝕄 :=
  iprop((bigSep Finset.univ fun k : Kd => roundState ER (Rd m) (cell c k) 0) ∗ (bigSep Finset.univ fun k : Kd => reached ER (cell c k) 0)
    ∗ (bigSep Finset.univ fun k : Kd => atPos ER (cell c k) 0 ∅ 0) ∗ bigSep Finset.univ fun k : Kd => toks c k)

theorem rounds_le (k : Kd) : rounds k ≤ 12 := by cases k <;> dsimp only [rounds] <;> omega

theorem toks_of (c : Dev nD) (k : Kd) :
    (bigSep Finset.univ fun i : Fin 12 => bigSep Finset.univ fun d : Fin 2 => dutyTok ER (cell c k) i.val d : sProp 𝕄) ⊢ toks c k := by
  have h : (bigSep Finset.univ fun i : Fin 12 => bigSep Finset.univ fun d : Fin 2 => dutyTok ER (cell c k) i.val d : sProp 𝕄)
      = bigSep (Finset.Iio 12) fun i => bigSep Finset.univ fun d : Fin 2 => dutyTok ER (cell c k) i d := by
    rw [← Fin.map_valEmbedding_univ, BI.bigSep_map]; rfl
  unfold toks
  rw [h]
  refine (BI.bigSep_subset (t := Finset.Ico 0 (rounds k)) fun i hi => ?_).trans (BI.bigSep_mono fun i _ => BI.bigSep_subset (Finset.subset_univ _))
  have := (Finset.mem_Ico.mp hi).2
  have := rounds_le k
  exact Finset.mem_Iio.mpr (by omega)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (cell c k) := by
    unfold allCells; rw [BI.bigSep_map, BI.bigSep_univ_prod]; rfl
  have hT : bigSep allToks (fun x => (dutyTok ER x.1 x.2.1 x.2.2 : sProp 𝕄)) ⊢ bigSep Finset.univ fun c : Dev nD => bigSep Finset.univ fun k : Kd => toks c k := by
    unfold allToks; rw [BI.bigSep_map, BI.bigSep_univ_prod, BI.bigSep_univ_prod]
    refine BI.bigSep_mono fun c _ => BI.bigSep_mono fun k _ => ?_
    rw [BI.bigSep_univ_prod]
    exact toks_of c k
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  iframe

/-! ## The semaphores -/

/-- The kernel's own semaphores. -/
def osem : Fin 10 → SemLoc sig
  | 0 => .dma (sendS 0)
  | 1 => .dma (sendS 1)
  | 2 => .dma (recvS 0)
  | 3 => .dma (recvS 1)
  | 4 => .dma loadS
  | 5 => .dma (5 : Fin 8)
  | 6 => .dma (storeS 0)
  | 7 => .dma (storeS 1)
  | 8 => .reg (credS 0)
  | 9 => .reg (credS 1)

theorem ownSemFacts : Pipeline.OwnSemFacts cfg0.spec osem := by decide

/-- The semaphores of the local copies, at rest. -/
def idle (c : Dev nD) : sProp 𝕄 :=
  iprop(semVal ((c : Thread nD τ), SemLoc.dma loadS) 0 ∗ semVal ((c : Thread nD τ), SemLoc.dma (5 : Fin 8)) 0
    ∗ stV c 0 ∗ stV c 1)

theorem bigSep_Kd (Φ : Kd → sProp 𝕄) : bigSep Finset.univ Φ
    = iprop(Φ .bar ∗ Φ (.snd 0) ∗ Φ (.snd 1) ∗ Φ (.rcv 0) ∗ Φ (.rcv 1) ∗ Φ (.crd 0) ∗ Φ (.crd 1)) :=
  bigSep_univ_eq_bigSepL [Kd.bar, Kd.snd 0, Kd.snd 1, Kd.rcv 0, Kd.rcv 1, Kd.crd 0, Kd.crd 1] (by decide) (by decide) Φ

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem ownSems0_eq (c : Dev nD) : (Pipeline.ownSems0 (Ix := ℕ) (Name := ℕ) (U := UU) (Lvl := ℕ) (Val := Elt F) (τ := τ) osem c : sProp 𝕄)
    = iprop(semVal (cell c (.snd 0)) 0 ∗ semVal (cell c (.snd 1)) 0 ∗ semVal (cell c (.rcv 0)) 0 ∗ semVal (cell c (.rcv 1)) 0
      ∗ semVal ((c : Thread nD τ), SemLoc.dma loadS) 0 ∗ semVal ((c : Thread nD τ), SemLoc.dma (5 : Fin 8)) 0
      ∗ semVal ((c : Thread nD τ), SemLoc.dma (storeS 0)) 0 ∗ semVal ((c : Thread nD τ), SemLoc.dma (storeS 1)) 0
      ∗ semVal (cell c (.crd 0)) 0 ∗ semVal (cell c (.crd 1)) 0) := by
  rw [Pipeline.ownSems0_eq_of_list c osem [0, 1, 2, 3, 4, 5, 6, 7, 8, 9] (by decide) (by decide)]; rfl

/-- A device's semaphores: those of the protocol, and the idle ones. -/
theorem sems_eq (c : Dev nD) :
    (iprop(Pipeline.ownSems0 (Ix := ℕ) (Name := ℕ) (U := UU) (Lvl := ℕ) (Val := Elt F) (τ := τ) osem c ∗ unscopedSems0 c) : sProp 𝕄)
      ⊣⊢ iprop((bigSep Finset.univ fun k : Kd => semVal (cell c k) 0) ∗ idle c) := by
  rw [unscopedSems0_eq, ownSems0_eq, bigSep_Kd]
  unfold idle stV
  constructor
  · iintro ⟨⟨H0, H1, H2, H3, H4, H5, H6, H7, H8, H9⟩, HB⟩
    iframe
  · iintro ⟨⟨HB, H0, H1, H2, H3, H8, H9⟩, H4, H5, H6, H7⟩
    iframe

/-! ## Cells opened, payments dealt to their payers -/

/-- The payments a device makes: to the barrier of the device before it, and of its sends and credits. -/
def mine (c : Dev nD) (d : Fin 2) : sProp 𝕄 :=
  iprop(dutyTok ER (cell (pv d c) .bar) 0 d ∗ outT d c 0 ∗ grT d c 0)

theorem toks_kinds :
    (bigSep Finset.univ fun c : Dev nD => bigSep Finset.univ fun k : Kd => toks (F := F) c k)
      ⊢ iprop((bigSep Finset.univ fun c : Dev nD => mine c 0) ∗ bigSep Finset.univ fun c : Dev nD => mine c 1) := by
  have one (c : Dev nD) (k : Kd) (hk : duty k = {0}) : (toks c k : sProp 𝕄) = bigSep (Finset.Ico 0 (rounds k)) fun i => dutyTok ER (cell c k) i 0 := by
    unfold toks; rw [hk]; exact BI.bigSep_congr fun i _ => BI.bigSep_singleton
  have hb (c : Dev nD) : (toks c .bar : sProp 𝕄) = iprop(dutyTok ER (cell c .bar) 0 0 ∗ dutyTok ER (cell c .bar) 0 1) := by
    unfold toks
    rw [show Finset.Ico 0 (rounds .bar) = {0} from rfl, BI.bigSep_singleton]
    exact bigSep_univ_eq_bigSepL [0, 1] (by decide) (by decide) _
  have hm (d : Fin 2) : (bigSep Finset.univ fun c : Dev nD => mine (F := F) c d)
      = iprop((bigSep Finset.univ fun c : Dev nD => dutyTok ER (cell c .bar) 0 d)
        ∗ ((bigSep Finset.univ fun c : Dev nD => toks c (.snd d)) ∗ bigSep Finset.univ fun c : Dev nD => toks c (.rcv d))
        ∗ bigSep Finset.univ fun c : Dev nD => toks c (.crd d)) := by
    unfold mine outT grT
    simp only [one _ (.snd d) rfl, one _ (.rcv d) rfl, one _ (.crd d) rfl, bigSep_sep']
    rw [BI.bigSep_univ_equiv (ring d).symm (fun c : Dev nD => (dutyTok ER (cell c .bar) 0 d : sProp 𝕄)),
      BI.bigSep_univ_equiv (ring d) (fun c : Dev nD => (bigSep (Finset.Ico 0 (rounds (.rcv d))) fun i => dutyTok ER (cell c (.rcv d)) i 0 : sProp 𝕄)),
      BI.bigSep_univ_equiv (ring d).symm (fun c : Dev nD => (bigSep (Finset.Ico 0 (rounds (.crd d))) fun i => dutyTok ER (cell c (.crd d)) i 0 : sProp 𝕄))]
    rfl
  rw [hm 0, hm 1]
  simp only [bigSep_Kd, bigSep_sep', hb]
  iintro ⟨⟨Hb0, Hb1⟩, H0, H1, H2, H3, H4, H5⟩
  iframe

/-- What a device starts the protocol with: the invariants, that every cell is at its first round, its own waits' positions,
    and the payments it makes. -/
def G' (c : Dev nD) : sProp 𝕄 :=
  iprop(((bigSep Finset.univ fun ck : Dev nD × Kd => iprop(∃ κ : ℕ, cellInv ER (Rd m) κ (cell ck.1 ck.2)))
      ∗ bigSep Finset.univ fun ck : Dev nD × Kd => reached ER (cell ck.1 ck.2) 0)
    ∗ ((bigSep Finset.univ fun k : Kd => atPos ER (cell c k) 0 ∅ 0) ∗ idle c) ∗ mine c 0 ∗ mine c 1)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd m) κ (cell c k)))
          ∗ (bigSep Finset.univ fun k : Kd => reached ER (cell c k) 0)
          ∗ ((bigSep Finset.univ fun k : Kd => atPos ER (cell c k) 0 ∅ 0) ∗ idle c) ∗ bigSep Finset.univ fun k : Kd => toks c k) := by
  have hopen : iprop((bigSep Finset.univ fun k : Kd => semVal (cell c k) 0) ∗ bigSep Finset.univ fun k : Kd => roundState ER (Rd m) (cell c k) 0)
      ⊢ (|={Set.univ}=> bigSep Finset.univ fun k : Kd => iprop(∃ κ : ℕ, cellInv ER (Rd m) κ (cell c k)) : sProp 𝕄) := by
    rw [← bigSep_sep']
    exact (BI.bigSep_mono fun k _ => (Rounds.body_intro ER (Rd m) (cell c k)).trans inv_alloc).trans (BI.bigSep_fupd _ _)
  unfold G
  iintro ⟨Hos, Hus, Hst, Hr, Hat, Htok⟩
  ihave Hv := (sems_eq (F := F) c).1 $$ [Hos Hus]
  · isplitl [Hos] <;> iassumption
  icases Hv with ⟨Hv, Hid⟩
  imod hopen $$ [Hv Hst] with Hinv
  · isplitl [Hv] <;> iassumption
  imodintro
  iframe

theorem deal :
    (bigSep Finset.univ fun c : Dev nD => iprop((bigSep Finset.univ fun k : Kd => iprop(∃ κ : ℕ, cellInv ER (Rd m) κ (cell c k)))
          ∗ (bigSep Finset.univ fun k : Kd => reached ER (cell c k) 0)
          ∗ ((bigSep Finset.univ fun k : Kd => atPos ER (cell c k) 0 ∅ 0) ∗ idle c) ∗ bigSep Finset.univ fun k : Kd => toks c k) : sProp 𝕄)
      ⊢ bigSep Finset.univ (G' m) := by
  have hG : (bigSep Finset.univ (G' m) : sProp 𝕄)
      = iprop(((bigSep Finset.univ fun _ : Dev nD => bigSep Finset.univ fun ck : Dev nD × Kd => iprop(∃ κ : ℕ, cellInv ER (Rd m) κ (cell ck.1 ck.2)))
          ∗ (bigSep Finset.univ fun _ : Dev nD => bigSep Finset.univ fun ck : Dev nD × Kd => reached ER (cell ck.1 ck.2) 0))
        ∗ (bigSep Finset.univ fun c : Dev nD => iprop((bigSep Finset.univ fun k : Kd => atPos ER (cell c k) 0 ∅ 0) ∗ idle c))
        ∗ (bigSep Finset.univ fun c : Dev nD => mine c 0) ∗ bigSep Finset.univ fun c : Dev nD => mine c 1) := by
    rw [show G' m = fun c => G' m c from rfl]; unfold G'; simp only [bigSep_sep']
  rw [hG, bigSep_sep', bigSep_sep', bigSep_sep', ← BI.bigSep_univ_prod (fun ck : Dev nD × Kd => iprop(∃ κ : ℕ, cellInv ER (Rd m) κ (cell ck.1 ck.2))),
    ← BI.bigSep_univ_prod (fun ck : Dev nD × Kd => (reached ER (cell ck.1 ck.2) 0 : sProp 𝕄))]
  iintro ⟨HI, HR, Hat, Htok⟩
  ihave HI := (BI.bigSep_of_persistent (Finset.univ : Finset (Dev nD)) _) $$ HI
  ihave HR := (BI.bigSep_of_persistent (Finset.univ : Finset (Dev nD)) _) $$ HR
  ihave Htok := toks_kinds $$ Htok
  icases Htok with ⟨H0, H1⟩
  iframe

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (BI.bigSep_fupd _ _)).trans (BI.fupd_mono (deal m))

/-! ## What is owed at the start, and to whom -/

/-- What a device owes at the start: the blocks and credits of both directions, and a unit to either neighbour's barrier. -/
def O₀ (c : Dev nD) : CellTallies nD τ sig ℕ :=
  (owes2 c 0 0 0 0 + tallyAt (cell (pv 1 c) .bar) 0 1) + tallyAt (cell (pv 0 c) .bar) 0 1

/-- Dues that go round the ring come to every device from one other. -/
theorem credit_ring (e : Dev nD ≃ Dev nD) (k : Kd) (i v : ℕ) (c : Dev nD) :
    (Pipeline.launchCred (fun d => tallyAt (cell (e d) k) i v) c : sProp 𝕄) = cred (tallyAt (cell c k) i v) :=
  Pipeline.launchCred_of_sum _ (fun d => tallyAt (cell d k) i v) (Equiv.sum_comp e fun d => (tallyAt (cell d k) i v : CellTallies nD τ sig ℕ))
    (fun d g hg => by
      by_contra hne
      exact hg (tallyAt_ne_cell (fun h : g = cell d k => hne (by rw [h]; rfl)) i v)) c

theorem credit_owe (d : Fin 2) (c : Dev nD) :
    (Pipeline.launchCred (fun c => owe d c 0 0) c : sProp 𝕄)
      = iprop((bigSep (Finset.Ico 0 12) fun i => cred (tallyAt (cell c (.rcv d)) i N)) ∗ bigSep (Finset.Ico 0 11) fun i => cred (tallyAt (cell c (.crd d)) i 1)) := by
  unfold owe
  rw [Pipeline.launchCred_add, Pipeline.launchCred_sum, Pipeline.launchCred_sum]
  congr 1
  · exact BI.bigSep_congr fun i _ => credit_ring (ring d) (.rcv d) i N c
  · exact BI.bigSep_congr fun i _ => credit_ring (ring d).symm (.crd d) i 1 c

/-- The credits a device waits with. -/
def waitsWith (c : Dev nD) (d : Fin 2) : sProp 𝕄 :=
  iprop((bigSep (Finset.Ico 0 12) fun i => cred (tallyAt (cell c (.rcv d)) i N)) ∗ bigSep (Finset.Ico 0 11) fun i => cred (tallyAt (cell c (.crd d)) i 1))

theorem creds (c : Dev nD) :
    (Pipeline.launchCred O₀ c : sProp 𝕄) ⊢ iprop(cred (tallyAt (cell c .bar) 0 2) ∗ waitsWith c 0 ∗ waitsWith c 1) := by
  have h2 : (tallyAt (cell c .bar) 0 2 : CellTallies nD τ sig ℕ) = tallyAt (cell c .bar) 0 1 + tallyAt (cell c .bar) 0 1 :=
    (tallyAt_add _ _ 1 1).symm
  have hO : (Pipeline.launchCred O₀ c : sProp 𝕄) = iprop(((waitsWith c 0 ∗ waitsWith c 1) ∗ cred (tallyAt (cell c .bar) 0 1)) ∗ cred (tallyAt (cell c .bar) 0 1)) := by
    unfold O₀ owes2
    rw [Pipeline.launchCred_add, Pipeline.launchCred_add, Pipeline.launchCred_add, credit_owe, credit_owe]
    congr 1
    · congr 1
      exact credit_ring (ring 1).symm .bar 0 1 c
    · exact credit_ring (ring 0).symm .bar 0 1 c
  rw [hO, h2]
  iintro ⟨⟨⟨H0, H1⟩, Hb⟩, Hb'⟩
  isplitl [Hb Hb']
  · iapply (cred_add _ _).2
    isplitl [Hb] <;> iassumption
  iframe

end Cert.KernelIdeal.Ring

end
-- ==== Proof.Launch.lean ====
module

public import proofs.«01_k».proof.Proof.Fund

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The result, block by block -/

/-- The direction, the round and the chunk of rows that fill a place of the result. -/
def dirAt (i : S8192x4096.Idx) : Fin 2 := Fin.ofNat 2 ((i 1).val / 2048)
def rndAt (i : S8192x4096.Idx) : Fin 2 := Fin.ofNat 2 ((i 0).val / 1024)
def chkAt (i : S8192x4096.Idx) : Fin 4 := Fin.ofNat 4 ((i 0).val / 2048)
/-- Where in its block the place lies. -/
def blkAt (i : S8192x4096.Idx) : S1024x2048.Idx := fun a => match a with
  | 0 => ⟨(i 0).val % 1024, Nat.mod_lt _ (by decide)⟩
  | 1 => ⟨(i 1).val % 2048, Nat.mod_lt _ (by decide)⟩

/-- Which store of direction `d` fills chunk `q`. -/
def storeOf (d : Fin 2) (q : Fin 4) : Fin 4 := match d with
  | 0 => c + 1 - q
  | 1 => q + 1 - c

theorem storeOf_outChunk : ∀ (c : Dev nD) (d : Fin 2) (j : Fin 4), storeOf c d (outChunk c d j) = j := by decide
theorem outChunk_storeOf : ∀ (c : Dev nD) (d : Fin 2) (q : Fin 4), outChunk c d (storeOf c d q) = q := by decide

/-- What the result ends as. -/
def outAt : Vec F S8192x4096 .bf16 := fun i =>
  gath m (dirAt i) (rndAt i) (storeOf c (dirAt i) (chkAt i)).val c (blkAt i)

/-- The part of the result that store `j` of round `r` in direction `d` fills. -/
abbrev stRect (t : Fin 2 × Fin 2 × Fin 4) : Rect S8192x4096 :=
  Rect.unit (s := S8192x4096) (outOff c t.1 t.2.1 t.2.2) S1024x2048.size (outOff_inb c t.1 t.2.1 t.2.2)

theorem stRect_emb (d r : Fin 2) (j : Fin 4) (y : S1024x2048.Idx) :
    (((stRect c (d, r, j)).emb y) 0).val = 2048 * (outChunk c d j).val + 1024 * r.val + (y 0).val
      ∧ (((stRect c (d, r, j)).emb y) 1).val = 2048 * d.val + (y 1).val := by
  have e (a : Fin 2) : (((stRect c (d, r, j)).emb y) a).val = outOff c d r j a + 1 * (y a).val := rfl
  refine ⟨(e 0).trans ?_, (e 1).trans ?_⟩ <;> rw [outOff_eq, Nat.one_mul] <;> rfl

theorem outAt_emb (d r : Fin 2) (j : Fin 4) : (fun y => outAt m c ((stRect c (d, r, j)).emb y)) = gath m d r j.val c := by
  funext y
  obtain ⟨h0, h1⟩ := stRect_emb c d r j y
  have y0 : (y 0).val < 1024 := (y 0).isLt
  have y1 : (y 1).val < 2048 := (y 1).isLt
  have hd : dirAt ((stRect c (d, r, j)).emb y) = d := Fin.ext (by
    show (((stRect c (d, r, j)).emb y) 1).val / 2048 % 2 = d.val
    rw [h1]; have := d.isLt; omega)
  have hr : rndAt ((stRect c (d, r, j)).emb y) = r := Fin.ext (by
    show (((stRect c (d, r, j)).emb y) 0).val / 1024 % 2 = r.val
    rw [h0]; have := r.isLt; omega)
  have hq : chkAt ((stRect c (d, r, j)).emb y) = outChunk c d j := Fin.ext (by
    show (((stRect c (d, r, j)).emb y) 0).val / 2048 % 4 = (outChunk c d j).val
    rw [h0]; have := r.isLt; have := (outChunk c d j).isLt; omega)
  have hb : blkAt ((stRect c (d, r, j)).emb y) = y := funext fun a => match a with
    | 0 => Fin.ext (by
      show (((stRect c (d, r, j)).emb y) 0).val % 1024 = (y 0).val
      rw [h0]; omega)
    | 1 => Fin.ext (by
      show (((stRect c (d, r, j)).emb y) 1).val % 2048 = (y 1).val
      rw [h1]; omega)
  unfold outAt
  rw [hd, hr, hq, hb, storeOf_outChunk]

theorem mem_stRect (t : Fin 2 × Fin 2 × Fin 4) (i : S8192x4096.Idx) :
    i ∈ (stRect c t).set ↔ t = (dirAt i, rndAt i, storeOf c (dirAt i) (chkAt i)) := by
  obtain ⟨d, r, j⟩ := t
  have i0 : (i 0).val < 8192 := (i 0).isLt
  have i1 : (i 1).val < 4096 := (i 1).isLt
  constructor
  · intro h
    rw [← Rect.map_emb_univ, Finset.mem_map] at h
    obtain ⟨y, -, rfl⟩ := h
    obtain ⟨h0, h1⟩ := stRect_emb c d r j y
    have y0 : (y 0).val < 1024 := (y 0).isLt
    have y1 : (y 1).val < 2048 := (y 1).isLt
    have hd : dirAt ((stRect c (d, r, j)).emb y) = d := Fin.ext (by
      show (((stRect c (d, r, j)).emb y) 1).val / 2048 % 2 = d.val
      rw [h1]; have := d.isLt; omega)
    have hr : rndAt ((stRect c (d, r, j)).emb y) = r := Fin.ext (by
      show (((stRect c (d, r, j)).emb y) 0).val / 1024 % 2 = r.val
      rw [h0]; have := r.isLt; omega)
    have hq : chkAt ((stRect c (d, r, j)).emb y) = outChunk c d j := Fin.ext (by
      show (((stRect c (d, r, j)).emb y) 0).val / 2048 % 4 = (outChunk c d j).val
      rw [h0]; have := r.isLt; have := (outChunk c d j).isLt; omega)
    have h : (dirAt ((stRect c (d, r, j)).emb y), rndAt ((stRect c (d, r, j)).emb y),
        storeOf c (dirAt ((stRect c (d, r, j)).emb y)) (chkAt ((stRect c (d, r, j)).emb y))) = (d, r, j) := by
      rw [hd, hr, hq, storeOf_outChunk]
    exact h.symm
  · intro h
    have hd : d = dirAt i := congrArg Prod.fst h
    have hr : r = rndAt i := congrArg (fun t : Fin 2 × Fin 2 × Fin 4 => t.2.1) h
    have hj : j = storeOf c (dirAt i) (chkAt i) := congrArg (fun t : Fin 2 × Fin 2 × Fin 4 => t.2.2) h
    rw [hd, hr, hj]
    rw [Rect.mem_set_unit]
    intro a
    dsimp only
    rw [outOff_eq, outChunk_storeOf]
    have hd : (dirAt i).val = (i 1).val / 2048 % 2 := rfl
    have hr : (rndAt i).val = (i 0).val / 1024 % 2 := rfl
    have hq : (chkAt i).val = (i 0).val / 2048 % 4 := rfl
    match a with
    | 0 =>
      show 2048 * (chkAt i).val + 1024 * (rndAt i).val ≤ (i 0).val ∧ (i 0).val < 2048 * (chkAt i).val + 1024 * (rndAt i).val + 1024
      rw [hr, hq]; omega
    | 1 =>
      show 2048 * (dirAt i).val ≤ (i 1).val ∧ (i 1).val < 2048 * (dirAt i).val + 2048
      rw [hd]; omega

theorem stRect_disj (t t' : Fin 2 × Fin 2 × Fin 4) (h : t ≠ t') : Disjoint (stRect c t).set (stRect c t').set :=
  Finset.disjoint_left.mpr fun i hi hi' => h (((mem_stRect c t i).mp hi).trans ((mem_stRect c t' i).mp hi').symm)

theorem stRect_cover : (Finset.univ : Finset (Fin 2 × Fin 2 × Fin 4)).biUnion (fun t => (stRect c t).set) = Finset.univ :=
  Finset.eq_univ_iff_forall.mpr fun i => Finset.mem_biUnion.mpr ⟨_, Finset.mem_univ _, (mem_stRect c _ i).mpr rfl⟩

/-- One resource per store of direction `d`. -/
abbrev all8 (Φ : Fin 2 → Fin 4 → sProp 𝕄) : sProp 𝕄 :=
  iprop((Φ 0 0 ∗ Φ 0 1 ∗ Φ 0 2 ∗ Φ 0 3) ∗ Φ 1 0 ∗ Φ 1 1 ∗ Φ 1 2 ∗ Φ 1 3)

theorem all16 (Φ : Fin 2 → Fin 2 → Fin 4 → sProp 𝕄) :
    (bigSep Finset.univ fun t : Fin 2 × Fin 2 × Fin 4 => Φ t.1 t.2.1 t.2.2) = iprop(all8 (Φ 0) ∗ all8 (Φ 1)) := by
  have h2 (Ψ : Fin 2 → sProp 𝕄) : bigSep Finset.univ Ψ = iprop(Ψ 0 ∗ Ψ 1) := bigSep_univ_eq_bigSepL [0, 1] (by decide) (by decide) Ψ
  have h4 (Ψ : Fin 4 → sProp 𝕄) : bigSep Finset.univ Ψ = iprop(Ψ 0 ∗ Ψ 1 ∗ Ψ 2 ∗ Ψ 3) :=
    bigSep_univ_eq_bigSepL [0, 1, 2, 3] (by decide) (by decide) Ψ
  rw [BI.bigSep_univ_prod, h2, BI.bigSep_univ_prod, BI.bigSep_univ_prod, h2, h2, h4, h4, h4, h4]

theorem hole_intro (d r : Fin 2) (j : Fin 4) (Z : Vec F S1024x2048 .bf16) : own c (oSl c d r j) fullShare Z ⊢ hole c d r j := by
  unfold hole; iintro H; iexists _; iexact H

/-- The result comes apart into the blocks to be filled, -/
theorem holes (X : Vec F S8192x4096 .bf16) : own c (Memref.whole main_v1) fullShare X ⊢ iprop(all8 (hole c 0) ∗ all8 (hole c 1)) := by
  rw [← all16]
  exact (owns_rects (c : Thread nD τ) (Memref.whole main_v1) fullShare (stRect c) (fun _ _ => rfl) (stRect_disj c) (stRect_cover c) X).trans
    (BI.bigSep_mono fun t _ => hole_intro c t.1 t.2.1 t.2.2 _)

/-- and the filled blocks make it up. -/
theorem whole_out : iprop(all8 (done m c 0) ∗ all8 (done m c 1)) ⊢ own c (Memref.whole main_v1) fullShare (outAt m c) := by
  rw [← all16]
  refine (BI.bigSep_mono fun t _ => ?_).trans
    (owns_of_rects (c : Thread nD τ) (Memref.whole main_v1) fullShare (stRect c) (fun _ _ => rfl) (stRect_disj c) (stRect_cover c) (outAt m c))
  obtain ⟨d, r, j⟩ := t
  exact Entails.of_eq (congrArg (own c (oSl c d r j) fullShare) (outAt_emb m c d r j).symm)

/-! ## The body's part of the launch -/

/-- The scratch buffers, whatever they hold. -/
def scratch : sProp 𝕄 :=
  iprop((free (F := F) c 0 0 ∗ free c 0 1 ∗ free c 1 0 ∗ free c 1 1) ∗ (slot 0 c ∗ slot 1 c)
    ∗ ((∃ G : Vec F S1024x2048 .bf16, own c (xb 0) fullShare G) ∗ (∃ G : Vec F S1024x2048 .bf16, own c (xb 1) fullShare G))
    ∗ ((∃ G : Vec F S2048x2048 .bf16, own c (wh 0) fullShare G) ∗ (∃ G : Vec F S2048x2048 .bf16, own c (wh 1) fullShare G))
    ∗ (∃ Z : Vec F S256x2048 .f32, own c stg fullShare Z))

theorem scratch_eq : (Pipeline.scopedRest (cfg0.spec) c : sProp 𝕄) ⊣⊢ scratch c := by
  rw [scopedRest0_eq]
  have hw {s : Shape} {e : EltTy} (M : Memref sig .tc .vmem s e) (h : M.IsWhole) :
      iprop(∃ Z : Vec F s e, own c M fullShare Z) = iprop(∃ f : Buf (Elt F) (M.view.loc (c : Thread nD τ)), (M.view.loc (c : Thread nD τ)) ↦{fullShare} f) :=
    h.exists_owns_eq fullShare
  have hf (d p : Fin 2) : (free c d p : sProp 𝕄) = _ := hw (buf d p) (buf_whole d p)
  have hs (d : Fin 2) : (slot d c : sProp 𝕄) = _ := hw (work d) (work_whole d)
  unfold scratch
  rw [hf 0 0, hf 0 1, hf 1 0, hf 1 1, hs 0, hs 1, hw (xb 0) (xb_whole 0), hw (xb 1) (xb_whole 1), hw (wh 0) (wh_whole 0), hw (wh 1) (wh_whole 1),
    hw stg stg_whole]
  constructor
  · iintro ⟨H0, H1, H2, H3, H4, H5, H6, H7, H8, H9, HZ⟩
    isplitl [H0 H1 H2 H3]
    · isplitl [H0]; · iexact H0
      isplitl [H1]; · iexact H1
      isplitl [H2]; · iexact H2
      iexact H3
    isplitl [H4 H5]
    · isplitl [H4]; · iexact H4
      iexact H5
    isplitl [H6 H7]
    · isplitl [H6]; · iexact H6
      iexact H7
    isplitl [H8 H9]
    · isplitl [H8]; · iexact H8
      iexact H9
    iexact HZ
  · iintro ⟨⟨H0, H1, H2, H3⟩, ⟨H4, H5⟩, ⟨H6, H7⟩, ⟨H8, H9⟩, HZ⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HZ

/-- What a device holds when it starts, besides its scratch. -/
def start : sProp 𝕄 :=
  iprop(levAts L lv ∗ G' m c ∗ (cred (tallyAt (cell c .bar) 0 2) ∗ waitsWith c 0 ∗ waitsWith c 1)
    ∗ args m c ∗ ∃ X : Vec F S8192x4096 .bf16, own c (Memref.whole main_v1) fullShare X)

/-- And what it holds at the end. -/
def finish : sProp 𝕄 :=
  iprop(scratch c ∗ ((bigSep Finset.univ fun k : Kd => semVal (cell c k) 0) ∗ idle c)
    ∗ args m c ∗ own c (Memref.whole main_v1) fullShare (outAt m c))

variable {Q : PUnit.{1} → sProp (MT nD τ sig ℕ (Elt F) ℕ UU ℕ)}

/-- What the body needs of one direction, from what the launch gives. -/
theorem Ini_intro (d : Fin 2) :
    iprop((bigSep Finset.univ fun ck : Dev nD × Kd => reached ER (cell ck.1 ck.2) 0)
        ∗ slot d c ∗ (free c d 0 ∗ free c d 1 ∗ stV c d) ∗ mine c d ∗ waitsWith c d
        ∗ (atPos ER (cell c (.snd d)) 0 ∅ 0 ∗ atPos ER (cell c (.rcv d)) 0 ∅ 0 ∗ atPos ER (cell c (.crd d)) 0 ∅ 0) ∗ all8 (hole c d))
      ⊢ (Ini c d : sProp 𝕄) := by
  have hr (c' : Dev nD) (k : Kd) : (bigSep Finset.univ fun ck : Dev nD × Kd => (reached ER (cell ck.1 ck.2) 0 : sProp 𝕄))
      ⊢ reached ER (cell c' k) 0 := BI.bigSep_elim (Finset.mem_univ (c', k))
  unfold Ini mine waitsWith inT crT
  iintro ⟨#HR, Hsl, Hf, ⟨Hb, Ho, Hg⟩, ⟨Hc0, Hc1⟩, ⟨Ha0, Ha1, Ha2⟩, Hh⟩
  ihave #H1 := (hr c (.rcv d)) $$ HR
  ihave #H2 := (hr (pv d c) .bar) $$ HR
  ihave #H3 := (hr c (.crd d)) $$ HR
  ihave #H4 := (hr c (.snd d)) $$ HR
  iframe
  isplitr
  · isplitr; · iexact H1
    iexact H2
  isplitr; · iexact H3
  iexact H4

/-- The cells of one direction, closed. -/
theorem close_dir (d : Fin 2) :
    iprop(ctx m ∗ Fini m c d) ⊢ |={Set.univ}=> iprop((semVal (cell c (.snd d)) 0 ∗ semVal (cell c (.rcv d)) 0 ∗ semVal (cell c (.crd d)) 0)
      ∗ (free c d 0 ∗ free c d 1 ∗ slot d c ∗ stV c d) ∗ all8 (done m c d)) := by
  unfold Fini Got inT crT
  iintro ⟨#Hctx, ⟨-, -, -, -, ⟨Ha0, Ha1, -⟩, ⟨Ha2, -⟩, -⟩, Hf, Hd⟩
  ihave H0 := (ctx_inv m c (.snd d)) $$ Hctx
  icases H0 with ⟨%κ0, #Hi0⟩
  ihave H1 := (ctx_inv m c (.rcv d)) $$ Hctx
  icases H1 with ⟨%κ1, #Hi1⟩
  ihave H2 := (ctx_inv m c (.crd d)) $$ Hctx
  icases H2 with ⟨%κ2, #Hi2⟩
  imod (Rounds.cell_close ER (Rd m) (Set.mem_univ κ0) (fun h => h) (duties_later m c (.snd d))) $$ [Ha0] with Hz0
  · isplitr; · iexact Hi0
    iexact Ha0
  imod (Rounds.cell_close ER (Rd m) (Set.mem_univ κ1) (fun h => h) (duties_later m c (.rcv d))) $$ [Ha1] with Hz1
  · isplitr; · iexact Hi1
    iexact Ha1
  imod (Rounds.cell_close ER (Rd m) (Set.mem_univ κ2) (fun h => h) (duties_later m c (.crd d))) $$ [Ha2] with Hz2
  · isplitr; · iexact Hi2
    iexact Ha2
  imodintro
  iframe

theorem sound :
    iprop((start m c ∗ scratch c) ∗ owing c (O₀ c))
      ⊢ iprop((finish m c ∗ owing c 0 -∗ Q ⟨⟩) -∗ WP c (body c) Q) := by
  unfold start G' scratch idle
  rw [bigSep_Kd]
  iintro ⟨⟨⟨#Hlev, ⟨⟨#HI, #HR⟩, ⟨⟨HaB, HaS0, HaS1, HaR0, HaR1, HaC0, HaC1⟩, Hl, H5, Hst0, Hst1⟩, Hm0, Hm1⟩, ⟨HcB, Hc0, Hc1⟩, Hargs, ⟨%X, Hv⟩⟩,
    ⟨Hf00, Hf01, Hf10, Hf11⟩, ⟨Hsl0, Hsl1⟩, ⟨Hx0, Hx1⟩, ⟨Hw0, Hw1⟩, Hz⟩, HO⟩ Hk
  ihave Hh := (holes c X) $$ Hv
  icases Hh with ⟨Hh0, Hh1⟩
  iapply (wp_fupd frame (wpE (defs₀ (F := F)) 𝒱₀ (c : Thread nD τ) none) Set.univ (body c) Q)
  ihave #Hctx : ctx m $$ []
  · unfold ctx
    isplitr; · iexact Hlev
    iexact HI
  ihave Hi0 := (Ini_intro c 0) $$ [Hsl0 Hf00 Hf01 Hst0 Hm0 Hc0 HaS0 HaR0 HaC0 Hh0]
  · iframe; iexact HR
  ihave Hi1 := (Ini_intro c 1) $$ [Hsl1 Hf10 Hf11 Hst1 Hm1 Hc1 HaS1 HaR1 HaC1 Hh1]
  · iframe; iexact HR
  iapply (wp_body m c) $$ [Hargs Hl Hz Hx0 Hx1 Hw0 Hw1 Hi0 Hi1 HcB HaB HO]
  · unfold strips O₀
    iframe; iexact Hctx
  iintro ⟨Ht, Hf0, Hf1, HaB, HO⟩
  imod (close_dir m c 0) $$ [Hf0] with ⟨⟨HS0, HR0, HC0⟩, ⟨Hf00, Hf01, Hsl0, Hst0⟩, Hd0⟩
  · iframe; iexact Hctx
  imod (close_dir m c 1) $$ [Hf1] with ⟨⟨HS1, HR1, HC1⟩, ⟨Hf10, Hf11, Hsl1, Hst1⟩, Hd1⟩
  · iframe; iexact Hctx
  ihave HB := (ctx_inv m c .bar) $$ Hctx
  icases HB with ⟨%κ, #HiB⟩
  imod (Rounds.cell_close ER (Rd m) (Set.mem_univ κ) (fun h => h) (duties_later m c .bar)) $$ [HaB] with HzB
  · isplitr; · iexact HiB
    iexact HaB
  ihave Hv := (whole_out m c) $$ [Hd0 Hd1]
  · isplitl [Hd0] <;> iassumption
  unfold tools strips
  icases Ht with ⟨Hargs, ⟨Hz, Hl⟩, Hw0, Hw1, Hx0, Hx1⟩
  imodintro
  iapply Hk
  unfold finish scratch idle
  rw [bigSep_Kd]
  isplitr [HO]
  · isplitl [Hf00 Hf01 Hf10 Hf11 Hsl0 Hsl1 Hx0 Hx1 Hw0 Hw1 Hz]
    · isplitl [Hf00 Hf01 Hf10 Hf11]; · iframe
      isplitl [Hsl0 Hsl1]; · iframe
      isplitl [Hx0 Hx1]; · iframe
      isplitl [Hw0 Hw1]
      · isplitl [Hw0]; · iexists _; iexact Hw0
        iexists _; iexact Hw1
      iexact Hz
    iframe
  iexact HO

end Cert.KernelIdeal.Ring

end
-- ==== Proof.Run.lean ====
module

public import proofs.«01_k».proof.Proof.Launch
public import Idealize.ShloMosaic.Lib.Pipeline.CollectiveSegs

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-- The one point of the launch: what a device holds before it and after it, and what it owes. -/
def dats (_ : Fin 1) (c : Dev nD) : Pipeline.Dat τ (Elt F) ℕ ℕ UU ℕ cfg0 c where
  A w := w.elim0
  after w := w.elim0
  Φ t := match t with
    | ⟨0, _⟩ => iprop(start m c ∗ scratch c)
    | ⟨_ + 1, _⟩ => finish m c
  q w := w.elim0
  owed t := match t with
    | ⟨0, _⟩ => O₀ c
    | ⟨_ + 1, _⟩ => 0

theorem body_obligation : Pipeline.BodyObligation (dats (F := F) m 0 c) (defs₀ (F := F)) 𝒱₀ 0 Set.univ := fun t => by
  rw [fin_N0 t]
  have hbody : (defs₀ (F := F)) .tc cfg0.body (cfg0.bodyArgs t0_0 (cfg0.slots t0_0)) = (.op .deviceId fun c => body c : PG F) := body_eq t0_0
  rw [hbody, wp_deviceId]
  have h0 : (dats m 0 c).Φ (Fin.castSucc t0_0) = iprop(start m c ∗ scratch c) := rfl
  have h1 : (dats m 0 c).Φ (Fin.succ t0_0) = finish m c := rfl
  have hw0 : (dats m 0 c).owed (Fin.castSucc t0_0) = O₀ c := rfl
  have hw1 : (dats m 0 c).owed (Fin.succ t0_0) = 0 := rfl
  rw [h0, h1]
  unfold Pipeline.Dat.owesAt Pipeline.owesWithin
  rw [hw0, hw1]
  iintro ⟨Hs, ⟨%W, -, HO⟩, -⟩
  iapply (sound m c) $$ [Hs HO]
  · isplitl [Hs]; · iexact Hs
    unfold owing; iexists W; iexact HO
  unfold owing
  iintro ⟨Hf, ⟨%W', HO⟩⟩
  isplitl [Hf]; · iexact Hf
  isplitl [HO]
  · iexists W'
    isplitr; · ipureintro; exact fun _ _ => Or.inl trivial
    iexact HO
  rw [show (Finset.univ : Finset (Fin cfg0.W)) = ∅ from rfl, BI.bigSep_empty]
  iempintro

theorem own_arg0 : own c (Memref.whole main_arg0) fullShare (hbmX m c)
    = ((c : Thread nD τ).loc main_arg0 ↦{fullShare} m ((c : Thread nD τ).loc main_arg0) : sProp 𝕄) :=
  owns_whole (c : Thread nD τ) main_arg0 fullShare (m ((c : Thread nD τ).loc main_arg0))

theorem own_arg1 : own c (Memref.whole main_arg1) fullShare (hbmW m c)
    = ((c : Thread nD τ).loc main_arg1 ↦{fullShare} m ((c : Thread nD τ).loc main_arg1) : sProp 𝕄) :=
  owns_whole (c : Thread nD τ) main_arg1 fullShare (m ((c : Thread nD τ).loc main_arg1))

theorem own_res (X : Vec F S8192x4096 .bf16) : own c (Memref.whole main_v1) fullShare X
    = ((c : Thread nD τ).loc main_v1 ↦{fullShare} X : sProp 𝕄) :=
  owns_whole (c : Thread nD τ) main_v1 fullShare X

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  unfold start args
  rw [own_arg0, own_arg1]
  iintro ⟨⟨Ha, Hb, Hv⟩, Hlev, Hcr, -, HG⟩
  ihave Hc := (creds (F := F) c) $$ Hcr
  ihave Hv := (Entails.of_eq (own_res c (m ((c : Thread nD τ).loc main_v1))).symm) $$ Hv
  imodintro
  isplitl
  · isplitl [Hlev]; · iexact Hlev
    isplitl [HG]; · iexact HG
    isplitl [Hc]; · iexact Hc
    isplitl [Ha Hb]
    · isplitl [Ha]; · iexact Ha
      iexact Hb
    iexists _; iexact Hv
  · iempintro

/-- What is read of the machine at the end. -/
def left : sProp 𝕄 :=
  iprop(unscopedSems0 c ∗ args m c ∗ own c (Memref.whole main_v1) fullShare (outAt m c))

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl]
  iintro ⟨Hs, -, Hr⟩
  isplitl [Hs]; · iexact Hs
  iapply (scratch_eq c).1; iexact Hr

theorem leave :
    (dats m 0 c).Φ (Fin.last cfg0.N) ⊢ iprop(left m c ∗ Pipeline.ownSems0 osem c ∗ Pipeline.scopedRest cfg0.spec c) := by
  rw [show (dats m 0 c).Φ (Fin.last cfg0.N) = finish m c from rfl]
  unfold finish left
  iintro ⟨Hr, Hsem, Ha, Hv⟩
  ihave Hsem := (sems_eq c).2 $$ Hsem
  icases Hsem with ⟨Ho, Hu⟩
  isplitl [Hu Ha Hv]
  · isplitl [Hu]; · iexact Hu
    isplitl [Ha] <;> iassumption
  isplitl [Ho]; · iexact Ho
  iapply (scratch_eq c).2; iexact Hr

/-- What every device's memory holds at the end: its arguments as they were, and the result. -/
def holds (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outAt m c

theorem read_left (s' : Phys nD τ sig (Elt F)) :
    iprop(left m c ∗ emp ∗ SI s') ⊢ (|={Set.univ}=> iprop(⌜holds m c s'.mem
      ∧ ∀ sm : SemLoc sig, sm.isScoped .tc = false → s'.mem.sem ((c.tc : Thread nD τ), sm) = 0⌝ ∗ SI s') : sProp 𝕄) := by
  unfold left args
  rw [own_arg0, own_arg1, own_res]
  iintro ⟨⟨Hu, ⟨Ha, Hb⟩, Hv⟩, -, HSI⟩
  icombine HSI Ha gives %ha
  icombine HSI Hb gives %hb
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ ha, Buf.eq_of_forall_mem_univ hb, Buf.eq_of_forall_mem_univ hv⟩, hs⟩
  iexact HSI

set_option maxRecDepth 65536 in
/-- Every run ends, and at every end each device's arguments are as they were, its result is `outAt`, and no semaphore
    counts anything. -/
theorem run_main : θ_run defs (onTc (τ := τ) (main (F := F))) ⟨m, fun _ => 0, ρ⟩ (fun r => (∀ c, holds m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) 0 0 c fun w => w.elim0)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_all m) $$ HX with HG
      imodintro
      isplitl [HP] <;> iassumption)
    (hglob := glob m)
    (hA := fun _ w => w.elim0) (hpf := fun _ k => k.elim0)
    (X := start m) (Y := left m) (Z := fun _ => iprop(emp))
    (hX := start_intro m ρ) (hin := enter m) (hout := leave m)
    (QY := fun c s => holds m c s ∧ ∀ sm : SemLoc sig, sm.isScoped .tc = false → s.sem ((c.tc : Thread nD τ), sm) = 0)
    (hY := read_left m)
    (hQ := fun _ h hs => ⟨fun c => (h c).2.2.1, sem_eq_zero hs fun c => (h c).2.2.2⟩)

end Cert.KernelIdeal.Ring

end
-- ==== Proof.Value.lean ====
/-
  What the result holds, over the extended reals: at each place the four devices' inner products added up, times the
  logistic of that sum. The two directions and the two rounds are the same statement at another part of the result, and
  the device that reads it off does not matter.
-/
module

public import proofs.«01_k».proof.Proof.Launch
public import Idealize.ShloMosaic.Lib.MatmulPlain
public import Idealize.ShloMosaic.Lib.Pipeline.Value

@[expose] public section

noncomputable section

namespace Cert.KernelIdeal.Ring

open Idealize.ShloMosaic Idealize.ShloMosaic.ValueIdx
open Idealize.ShloMosaic.TcCoe
open Idealize.SL Idealize.SL.Sem
open Cert.KernelIdeal Cert.KernelIdeal.Gen

variable (m : (ℓ : Loc nD τ sig) → Buf (Elt Ideal) ℓ) (c : Dev nD)

/-- Device `c`'s share of the product at a place: the inner product over its own 2048 of the contracted coordinate. -/
def share (i : S8192x4096.Idx) : EReal :=
  ∑ k : Fin 2048, (hbmX m c (ix2 (i 0) k) : EReal) * (hbmW m c (ix2 k (i 1)) : EReal)

/-- A number times its logistic. -/
def silu (t : EReal) : EReal := t * Ideal.logistic t

theorem pDot_at (x : Vec Ideal S1024x2048 .bf16) (w : Vec Ideal S2048x2048 .bf16) (a : Fin 1024) (b : Fin 2048) :
    (pDot x w (ix2 a b) : EReal) = ∑ k : Fin 2048, (x (ix2 a k) : EReal) * (w (ix2 k b) : EReal) := by
  unfold pDot
  rw [shapeCast_self]
  refine (Ideal.matmul_plain_apply (φ₁ := .bf16) (φ₂ := .bf16) none x w (constant S1024x2048 .f32 0x00000000#32) a b).trans ?_
  show Ideal.ofBits .f32 0x00000000#32 + _ = _
  rw [Ideal.ofBits_zero_f32, zero_add]

theorem pAdd_at (a b : Vec Ideal S1024x2048 .bf16) (y : S1024x2048.Idx) :
    (pAdd a b y : EReal) = (a y : EReal) + (b y : EReal) := by
  unfold pAdd; rw [shapeCast_self]; rfl

theorem pAct_at (a : Vec Ideal S1024x2048 .bf16) (y : S1024x2048.Idx) : (pAct a y : EReal) = silu (a y) := by
  unfold pAct; rw [shapeCast_self]; rfl

/-- The place of the result where direction `d`, round `r` and chunk `q` put the element `y` of their block. -/
abbrev place (d r : Fin 2) (q : Fin 4) (y : S1024x2048.Idx) : S8192x4096.Idx := (oRect q r d).emb y

/-- A block's product is the device's share at the places the block stands for. -/
theorem prod_at (d r : Fin 2) (q : Fin 4) (y : S1024x2048.Idx) :
    (prod m d r q c y : EReal) = share m c (place d r q y) := by
  obtain ⟨a, b, rfl⟩ : ∃ (a : Fin 1024) (b : Fin 2048), y = ix2 a b := ⟨y 0, y 1, eq_ix2 y⟩
  refine (pDot_at _ _ a b).trans (Finset.sum_congr rfl fun k _ => ?_)
  have ex : (xRect q r).emb (ix2 a k) = ix2 ((place d r q (ix2 a b)) 0) k := funext fun t => Fin.ext (by
    match t with
    | ⟨0, _⟩ => rfl
    | ⟨1, _⟩ => show 0 + 1 * k.val = k.val; omega)
  have ew : (wRect d).emb (ix2 k b) = ix2 k ((place d r q (ix2 a b)) 1) := funext fun t => Fin.ext (by
    match t with
    | ⟨0, _⟩ => show 0 + 1 * k.val = k.val; omega
    | ⟨1, _⟩ => rfl)
  show (hbmX m c ((xRect q r).emb (ix2 a k)) : EReal) * (hbmW m c ((wRect d).emb (ix2 k b)) : EReal) = _
  rw [ex, ew]; rfl

/-- What a device multiplies next is what its upstream neighbour multiplied last. -/
theorem chunkOf_pv : ∀ (c : Dev nD) (d : Fin 2) (s : Fin 4), chunkOf (pv d c) d s = chunkOf c d (s + 1) := by decide +kernel

/-- Going upstream three times from a device meets all four, -/
theorem ring_univ : ∀ (c : Dev nD) (d : Fin 2),
    (Finset.univ : Finset (Dev nD)) = {c, pv d c, pv d (pv d c), pv d (pv d (pv d c))} := by decide +kernel
/-- each of them once. -/
theorem ring_distinct : ∀ (c : Dev nD) (d : Fin 2),
    c ∉ ({pv d c, pv d (pv d c), pv d (pv d (pv d c))} : Finset (Dev nD))
      ∧ pv d c ∉ ({pv d (pv d c), pv d (pv d (pv d c))} : Finset (Dev nD))
      ∧ pv d (pv d c) ∉ ({pv d (pv d (pv d c))} : Finset (Dev nD)) := by decide +kernel

theorem ring_sum (d : Fin 2) (f : Dev nD → EReal) :
    f c + (f (pv d c) + (f (pv d (pv d c)) + f (pv d (pv d (pv d c))))) = ∑ c', f c' := by
  obtain ⟨h0, h1, h2⟩ := ring_distinct c d
  rw [ring_univ c d, Finset.sum_insert h0, Finset.sum_insert h1, Finset.sum_insert h2, Finset.sum_singleton]

/-- After three steps of reducing a device holds, for its last chunk, the sum over all devices. -/
theorem acc_at (d r : Fin 2) (y : S1024x2048.Idx) :
    (acc m d r 3 c y : EReal) = ∑ c', share m c' (place d r (chunkOf c d 3) y) := by
  have e1 : chunkOf (pv d c) d 2 = chunkOf c d 3 := chunkOf_pv c d 2
  have e2 : chunkOf (pv d (pv d c)) d 1 = chunkOf c d 3 := (chunkOf_pv _ d 1).trans e1
  have e3 : chunkOf (pv d (pv d (pv d c))) d 0 = chunkOf c d 3 := (chunkOf_pv _ d 0).trans e2
  refine Eq.trans ?_ (ring_sum c d fun c' => share m c' (place d r (chunkOf c d 3) y))
  refine (pAdd_at _ _ y).trans (congrArg₂ (· + ·) (prod_at m c d r (chunkOf c d 3) y) ?_)
  refine (pAdd_at _ _ y).trans (congrArg₂ (· + ·) ?_ ?_)
  · rw [← e1]; exact prod_at m _ d r _ y
  refine (pAdd_at _ _ y).trans (congrArg₂ (· + ·) ?_ ?_)
  · rw [← e2]; exact prod_at m _ d r _ y
  · rw [← e3]; exact prod_at m _ d r _ y

/-- What a device holds after `n` steps of gathering was made `n` devices upstream. -/
theorem gath_back (d r : Fin 2) : ∀ (n : ℕ) (c : Dev nD), gath m d r n c = pAct (acc m d r 3 ((pv d)^[n] c))
  | 0, _ => rfl
  | n + 1, c => gath_back d r n (pv d c)

/-- The chunk that was finished `j` devices upstream is the one that store `j` writes. -/
theorem outChunk_back : ∀ (c : Dev nD) (d : Fin 2) (j : Fin 4), chunkOf ((pv d)^[j.val] c) d 3 = outChunk c d j := by
  decide +kernel

/-- The place of a block's element, at the part of the result it was taken from. -/
theorem place_blkAt (i : S8192x4096.Idx) : place (dirAt i) (rndAt i) (chkAt i) (blkAt i) = i := by
  have i0 : (i 0).val < 8192 := (i 0).isLt
  have i1 : (i 1).val < 4096 := (i 1).isLt
  funext t
  apply Fin.ext
  match t with
  | ⟨0, _⟩ =>
    show 2048 * ((i 0).val / 2048 % 4) + 1024 * ((i 0).val / 1024 % 2) + 1 * ((i 0).val % 1024) = (i 0).val
    omega
  | ⟨1, _⟩ =>
    show 2048 * ((i 1).val / 2048 % 2) + 1 * ((i 1).val % 2048) = (i 1).val
    omega

/-- The result, place by place. -/
theorem outAt_at (i : S8192x4096.Idx) : (outAt m c i : EReal) = silu (∑ c', share m c' i) := by
  unfold outAt
  rw [gath_back]
  refine (pAct_at _ _).trans (congrArg silu ?_)
  rw [acc_at, outChunk_back, outChunk_storeOf, place_blkAt]

end Cert.KernelIdeal.Ring

end
-- ==== Proof.Match.lean ====
/-
  The references, and that the kernel's result is theirs: the product's contracted coordinate is cut among the devices
  as the arguments are, a quotient by one plus an exponential is a logistic, and the clip is the identity where the
  devices' shares lie between −15 and 15.
-/
module

public import proofs.«01_k».proof.Defs
public import proofs.«01_k».proof.Proof.Value
public import proofs.«01_k».proof.Proof.Gen.ReferenceIdeal.Read
public import proofs.«01_k».proof.Proof.Gen.ReferenceUnclipped.Read
public import proofs.«01_k».proof.Proof.Gen.Pre_partials_within_15_KernelIdeal
public import Idealize.ShloMosaic.Lib.ReduceAll
public import Idealize.ShloMosaic.Lib.StackMember
public import Idealize.ShloMosaic.Lib.Pointwise.Sums

@[expose] public section

noncomputable section

namespace Cert.Match

open Idealize.ShloMosaic
open Idealize.ShloMosaic.TcCoe
open Idealize.SL Idealize.SL.Sem
open Cert.KernelIdeal.Ring (share silu)

/-- The whole `x`, the whole `w` and the result, at their shapes. -/
abbrev X := FVec Ideal ⟨2, ![8192, 8192]⟩ .f32
abbrev W := FVec Ideal ⟨2, ![8192, 4096]⟩ .f32
abbrev Out := (⟨2, ![8192, 4096]⟩ : Shape).Idx

/-- The whole product at a place. -/
def total (x : X) (w : W) (i : Out) : EReal := ∑ k : Fin 8192, (x (ValueIdx.ix2 (i 0) k) : EReal) * (w (ValueIdx.ix2 k (i 1)) : EReal)

/-- Two families of indices that run as they should give that product. -/
theorem total_of (x : X) (w : W) (i : Out) (l : Fin 8192 → (⟨2, ![8192, 8192]⟩ : Shape).Idx) (r : Fin 8192 → Out)
    (hl : ∀ k, (l k 0).val = (i 0).val ∧ (l k 1).val = k.val) (hr : ∀ k, (r k 0).val = k.val ∧ (r k 1).val = (i 1).val) :
    ∑ k : Fin 8192, (x (l k) : EReal) * (w (r k) : EReal) = total x w i := by
  unfold total
  refine Finset.sum_congr rfl fun k _ => ?_
  have el : l k = ValueIdx.ix2 (i 0) k := funext fun t => Fin.ext (by
    match t with
    | ⟨0, _⟩ => exact (hl k).1
    | ⟨1, _⟩ => exact (hl k).2)
  have er : r k = ValueIdx.ix2 k (i 1) := funext fun t => Fin.ext (by
    match t with
    | ⟨0, _⟩ => exact (hr k).1
    | ⟨1, _⟩ => exact (hr k).2)
  rw [el, er]; rfl

/-! ## Arithmetic -/

theorem one_add_exp_ne_zero (y : EReal) : (1 : EReal) + Ideal.exp y ≠ 0 := by
  have h : (0 : EReal) ≤ Ideal.exp y := by
    induction y with
    | bot => simp
    | top => simp
    | coe r => rw [Ideal.exp_coe]; exact_mod_cast (Real.exp_pos r).le
  have h1 : (1 : EReal) ≤ 1 + Ideal.exp y := by simpa using add_le_add_right h (1 : EReal)
  exact (lt_of_lt_of_le zero_lt_one h1).ne'

/-- A number over one plus the exponential of its negative is the number times its logistic. -/
theorem div_one_add_exp (y : EReal) : Ideal.div y (1 + Ideal.exp (-y)) = silu y := by
  have h := one_add_exp_ne_zero (-y)
  show _ = y * Ideal.div 1 (1 + Ideal.exp (-y))
  unfold Ideal.div
  rw [if_neg h, if_neg h, one_mul]

theorem word_one : Ideal.ofBits .f32 0x3F800000#32 = 1 := by
  simp [Ideal.ofBits, Ideal.ieee, -EReal.coe_mul]; norm_num
theorem word_fifteen : Ideal.ofBits .f32 0x41700000#32 = ((15 : ℝ) : EReal) := by
  simp [Ideal.ofBits, Ideal.ieee, -EReal.coe_mul]; norm_num
theorem word_sixty : Ideal.ofBits .f32 0x42700000#32 = ((60 : ℝ) : EReal) := by
  simp [Ideal.ofBits, Ideal.ieee, -EReal.coe_mul]; norm_num
theorem word_neg_sixty : Ideal.ofBits .f32 0xC2700000#32 = ((-60 : ℝ) : EReal) := by
  simp [Ideal.ofBits, Ideal.ieee, -EReal.coe_mul]; norm_num

/-- Four numbers between −15 and 15 add up to one between −60 and 60. -/
theorem sum_within (f : Fin 4 → EReal) (h : ∀ c, max (f c) (-f c) ≤ ((15 : ℝ) : EReal)) :
    ((-60 : ℝ) : EReal) ≤ ∑ c, f c ∧ ∑ c, f c ≤ ((60 : ℝ) : EReal) := by
  have hi (c : Fin 4) : f c ≤ ((15 : ℝ) : EReal) := (le_max_left _ _).trans (h c)
  have lo (c : Fin 4) : ((-15 : ℝ) : EReal) ≤ f c := by
    have := EReal.neg_le_neg_iff.mpr ((le_max_right (f c) (-f c)).trans (h c))
    rwa [neg_neg, ← EReal.coe_neg] at this
  constructor
  · refine le_trans (le_of_eq ?_) (Finset.sum_le_sum fun c _ => lo c)
    rw [Fin.sum_univ_four]; norm_cast
  · refine (Finset.sum_le_sum fun c _ => hi c).trans (le_of_eq ?_)
    rw [Fin.sum_univ_four]; norm_cast

/-! ## The references at a place -/

theorem clipped_at (x : X) (w : W) (i : Out) (lo : ((-60 : ℝ) : EReal) ≤ total x w i) (hi : total x w i ≤ ((60 : ℝ) : EReal)) :
    (Cert.ReferenceIdeal.Read.val_main_v7 (F := Ideal) x w i : EReal) = silu (total x w i) := by
  have e : Cert.ReferenceIdeal.Read.val_main_v0 (F := Ideal) x w i = total x w i :=
    (Cert.ReferenceIdeal.Read.val_main_v0_apply x w i).trans (total_of x w i _ _ (fun _ => ⟨rfl, rfl⟩) fun _ => ⟨rfl, rfl⟩)
  have c : Cert.ReferenceIdeal.Read.val_main_v1 (F := Ideal) x w i = total x w i := by
    rw [Cert.ReferenceIdeal.Read.val_main_v1_apply, Cert.ReferenceIdeal.Read.val_main_call0_v2_apply,
      Cert.ReferenceIdeal.Read.val_main_call0_v4_apply, Cert.ReferenceIdeal.Read.val_main_call0_v1_apply,
      Cert.ReferenceIdeal.Read.val_main_call0_v3_apply, Cert.ReferenceIdeal.Read.val_main_call0_v0_apply,
      Cert.ReferenceIdeal.Read.val_main_cst_0_apply, Cert.ReferenceIdeal.Read.val_main_cst_apply, e,
      Ideal.ofBits_def, Ideal.ofBits_def, word_sixty, word_neg_sixty, Ideal.maximumf_def, Ideal.minimumf_def,
      max_eq_right lo, min_eq_right hi]
  rw [Cert.ReferenceIdeal.Read.val_main_v7_apply, Ideal.truncf_def, Cert.ReferenceIdeal.Read.val_main_v6_apply, e,
    Cert.ReferenceIdeal.Read.val_main_v5_apply, Cert.ReferenceIdeal.Read.val_main_v4_apply,
    Cert.ReferenceIdeal.Read.val_main_cst_1_apply, Cert.ReferenceIdeal.Read.val_main_v3_apply,
    Cert.ReferenceIdeal.Read.val_main_v2_apply, c, Ideal.ofBits_def, word_one, Ideal.hostNegf_def, Ideal.negf_def,
    Ideal.hostUnary_exp_def, Ideal.addf_def, Ideal.hostDivf_def]
  exact div_one_add_exp _

theorem unclipped_at (x : X) (w : W) (i : Out) :
    (Cert.ReferenceUnclipped.Read.val_main_v6 (F := Ideal) x w i : EReal) = silu (total x w i) := by
  have e : Cert.ReferenceUnclipped.Read.val_main_v0 (F := Ideal) x w i = total x w i :=
    (Cert.ReferenceUnclipped.Read.val_main_v0_apply x w i).trans (total_of x w i _ _ (fun _ => ⟨rfl, rfl⟩) fun _ => ⟨rfl, rfl⟩)
  rw [Cert.ReferenceUnclipped.Read.val_main_v6_apply, Ideal.truncf_def, Cert.ReferenceUnclipped.Read.val_main_v5_apply, e,
    Cert.ReferenceUnclipped.Read.val_main_v4_apply, Cert.ReferenceUnclipped.Read.val_main_v3_apply,
    Cert.ReferenceUnclipped.Read.val_main_cst_apply, Cert.ReferenceUnclipped.Read.val_main_v2_apply,
    Cert.ReferenceUnclipped.Read.val_main_v1_apply, e, Ideal.ofBits_def, word_one, Ideal.hostNegf_def, Ideal.negf_def,
    Ideal.hostUnary_exp_def, Ideal.addf_def, Ideal.hostDivf_def]
  exact div_one_add_exp _

/-! ## The devices' shares -/

variable (m : (ℓ : Loc Cert.KernelIdeal.nD Cert.KernelIdeal.τ Cert.KernelIdeal.sig) → Buf (Elt Ideal) ℓ)

/-- The devices hold the parts of `x` and `w` that the contracted coordinate cuts them into. -/
def Cut (x : X) (w : W) : Prop := ∀ c : Dev Cert.KernelIdeal.nD,
  m ((c.tc : Thread Cert.KernelIdeal.nD Cert.KernelIdeal.τ).loc Cert.KernelIdeal.main_arg0)
      = Layout.block ⟨2, ![8192, 2048]⟩ ⟨2, ![8192, 8192]⟩ 1 4 c x
    ∧ m ((c.tc : Thread Cert.KernelIdeal.nD Cert.KernelIdeal.τ).loc Cert.KernelIdeal.main_arg1)
      = Layout.block ⟨2, ![2048, 4096]⟩ ⟨2, ![8192, 4096]⟩ 0 4 c w

/-- The shares add up to the whole product. -/
theorem shares_total (x : X) (w : W) (h : Cut m x w) (i : Out) : ∑ c, share m c i = total x w i := by
  unfold total
  rw [Fin.sum_univ_tiles 4 2048 rfl]
  refine Finset.sum_congr rfl fun c _ => Finset.sum_congr rfl fun k _ => ?_
  have hx : Cert.KernelIdeal.Ring.hbmX m c = Layout.block ⟨2, ![8192, 2048]⟩ ⟨2, ![8192, 8192]⟩ 1 4 c x := (h c).1
  have hw : Cert.KernelIdeal.Ring.hbmW m c = Layout.block ⟨2, ![2048, 4096]⟩ ⟨2, ![8192, 4096]⟩ 0 4 c w := (h c).2
  rw [hx, hw]
  refine congrArg₂ (fun a b : EReal => a * b) (congrArg x ?_) (congrArg w ?_)
  · funext t; apply Fin.ext
    match t with
    | ⟨0, _⟩ => rfl
    | ⟨1, _⟩ => rfl
  · funext t; apply Fin.ext
    match t with
    | ⟨0, _⟩ => rfl
    | ⟨1, _⟩ => rfl

/-- The precondition bounds every device's share at every place. -/
theorem share_within (h : Cert.Pre_KernelIdeal_partials_within_15_KernelIdeal m) (c : Dev Cert.KernelIdeal.nD) (i : Out) :
    max (share m c i) (-share m c i) ≤ ((15 : ℝ) : EReal) := by
  have hc := congrFun (h c) ValueIdx.ix0
  have : Subsingleton Cert.Pre_partials_within_15_KernelIdeal.S_.Idx := ⟨fun a b => funext fun t => t.elim0⟩
  have hi := Host.reduce_andi_all _ _ _ _ ValueIdx.ix0 hc i
  obtain ⟨a, b, rfl⟩ : ∃ (a : Fin 8192) (b : Fin 4096), i = ValueIdx.ix2 a b := ⟨i 0, i 1, ValueIdx.eq_ix2 i⟩
  have hd : Host.dotGeneral (DotDims.plain 8192 2048 4096) none (φ₁ := .f32) (φ₂ := .f32)
      (Cert.KernelIdeal.Ring.hbmX m c) (Cert.KernelIdeal.Ring.hbmW m c) (ValueIdx.ix2 a b)
      = share m c (ValueIdx.ix2 a b) := StackMember.dotGeneral_plain_apply none _ _ a b
  have ho : Ideal.cmp .ole (max (share m c (ValueIdx.ix2 a b)) (-share m c (ValueIdx.ix2 a b))) (Ideal.ofBits .f32 0x41700000#32) = 1#1 := by
    rw [← hd]; exact hi
  rw [word_fifteen] at ho
  by_contra hn
  have : Ideal.cmp .ole (max (share m c (ValueIdx.ix2 a b)) (-share m c (ValueIdx.ix2 a b))) ((15 : ℝ) : EReal) = 0#1 := by
    show BitVec.ofBool (decide _) = _
    rw [decide_eq_false hn]; rfl
  rw [this] at ho
  exact absurd ho (by decide)

/-! ## The kernel's result is the references' -/

theorem out_clipped (x : X) (w : W) (h : Cut m x w) (hp : Cert.Pre_KernelIdeal_partials_within_15_KernelIdeal m)
    (c : Dev Cert.KernelIdeal.nD) :
    Cert.KernelIdeal.Ring.outAt m c = Cert.ReferenceIdeal.Read.val_main_v7 (F := Ideal) x w := by
  funext i
  have hb := sum_within (fun c => share m c i) fun c => share_within m hp c i
  rw [show ∑ c : Fin 4, share m c i = total x w i from shares_total m x w h i] at hb
  refine (Cert.KernelIdeal.Ring.outAt_at m c i).trans ?_
  rw [shares_total m x w h i]
  exact (clipped_at x w i hb.1 hb.2).symm

theorem out_unclipped (x : X) (w : W) (h : Cut m x w) (c : Dev Cert.KernelIdeal.nD) :
    Cert.KernelIdeal.Ring.outAt m c = Cert.ReferenceUnclipped.Read.val_main_v6 (F := Ideal) x w := by
  funext i
  refine (Cert.KernelIdeal.Ring.outAt_at m c i).trans ?_
  rw [shares_total m x w h i]
  exact (unclipped_at x w i).symm

end Cert.Match

end
-- ==== Proof.lean ====
/-
  The claims put together: both runs of the kernel are its one run, read at each instance; the references run as their
  generated modules say; and the kernel's result is each reference's by Proof/Match.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceUnclipped
public import proofs.«01_k».proof.Proof.Gen.ReferenceUnclipped.Run
public import proofs.«01_k».proof.Proof.Gen.ReferenceUnclipped.Read
public import proofs.«01_k».proof.Proof.Gen.Pre_partials_within_15_KernelIdeal
public import proofs.«01_k».proof.Proof.Gen.Pre_partials_within_15_ReferenceIdeal
public import proofs.«01_k».proof.Proof.Run
public import proofs.«01_k».proof.Proof.Match
public import Idealize.ShloMosaic.Lib.Quiescent
public import Idealize.ShloMosaic.Adequacy
public import Idealize.ShloMosaic.Init

@[expose] public section

noncomputable section

namespace Cert.Proof

open Idealize.ShloMosaic Idealize.SL.Sem

/-- The kernel over the float words: it ends, keeps its arguments and leaves every semaphore at zero. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.Ring.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- The reference ends and keeps its arguments; it has no semaphores. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- So does the unclipped reference. -/
theorem frame_unclipped : Cert.quiescent_ReferenceUnclipped := fun m ρ _ =>
  (θ_run Cert.ReferenceUnclipped.defs _ _).mono (fun _ h => ⟨fun c => (h c).2, sem_eq_zero_of_no_sems rfl _⟩)
    (Cert.ReferenceUnclipped.Value.run (F := Ideal) m ρ)

/-- With every device's share between −15 and 15 the kernel's result is the reference's. -/
theorem value : Cert.algebraic_KernelIdeal_ReferenceIdeal_pre_partials_within_15_KernelIdeal := fun m ρ m' ρ' hp h =>
  ⟨Cert.ReferenceIdeal.Read.val_main_v7 (F := Ideal) (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ g c => ⟨(g.1 c).2.2.trans (Cert.Match.out_clipped m _ _ h hp c), (g.1 c).1, (g.1 c).2.1⟩)
      (Cert.KernelIdeal.Ring.run_main (F := Ideal) m ρ),
    (θ_run Cert.ReferenceIdeal.defs _ _).mono
      (fun _ g => ⟨(g 0).1.trans (Cert.ReferenceIdeal.Read.val_main_v7_eq _ _), (g 0).2⟩)
      (Cert.ReferenceIdeal.Value.run (F := Ideal) m' ρ')⟩

/-- Whatever the shares, it is the unclipped reference's. -/
theorem value_unclipped : Cert.algebraic_KernelIdeal_ReferenceUnclipped := fun m ρ m' ρ' _ h =>
  ⟨Cert.ReferenceUnclipped.Read.val_main_v6 (F := Ideal) (m' ((0 : Dev Cert.ReferenceUnclipped.nD).tc.loc Cert.ReferenceUnclipped.main_arg0))
      (m' ((0 : Dev Cert.ReferenceUnclipped.nD).tc.loc Cert.ReferenceUnclipped.main_arg1)),
    (θ_run Cert.KernelIdeal.defs _ _).mono
      (fun _ g c => ⟨(g.1 c).2.2.trans (Cert.Match.out_unclipped m _ _ h c), (g.1 c).1, (g.1 c).2.1⟩)
      (Cert.KernelIdeal.Ring.run_main (F := Ideal) m ρ),
    (θ_run Cert.ReferenceUnclipped.defs _ _).mono
      (fun _ g => ⟨(g 0).1.trans (Cert.ReferenceUnclipped.Read.val_main_v6_eq _ _), (g 0).2⟩)
      (Cert.ReferenceUnclipped.Value.run (F := Ideal) m' ρ')⟩

/-- Everything claimed. -/
theorem claim : Cert.Claim := ⟨Cert.Kernel.Gen.facts, Cert.KernelIdeal.Gen.facts, Cert.ReferenceIdeal.Gen.facts,
  Cert.ReferenceUnclipped.Gen.facts, Cert.Pre_partials_within_15_KernelIdeal.Gen.facts,
  Cert.Pre_partials_within_15_ReferenceIdeal.Gen.facts,
  frame_kernel, frame_kernelIdeal, fun m ρ _ => frame_kernelIdeal m ρ trivial, frame_reference,
  fun m ρ _ => frame_reference m ρ trivial, frame_unclipped, trivial, value, value_unclipped⟩

end Cert.Proof

end
